-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7_2) = v0 c
          ∧ r.2.mem ((c.tc : Thread Cert.ReferenceIdeal.nD Cert.ReferenceIdeal.τ).loc Cert.ReferenceIdeal.main_v7_3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S256x128 : Shape := ⟨2, ![256, 128]⟩
abbrev S_ : Shape := ⟨0, ![]⟩

class Facts : Prop where
  bcast_S_S256x128 : S_.BroadcastsInDim S256x128 (![] : Fin 0 → Fin S256x128.rank)

variable [Facts]

def fn {F : FTy → Type} [FloatOps F] (main_arg0 : FVec F S256x128 .f32) : IVec S256x128 1 :=
  let main_v0 : FVec F S256x128 .f32 := Host.absf main_arg0
  let main_cst : FVec F S_ .f32 := constant S_ .f32 0x7F800000#32
  let main_v1 : FVec F S256x128 .f32 := broadcastInDim S256x128 ![] bcast_S_S256x128 main_cst
  let main_v2 : IVec S256x128 1 := cmpf .olt main_v0 main_v1
  main_v2
-- ==== Kernel.lean ====
abbrev S256x128 : Shape := ⟨2, ![256, 128]⟩
abbrev S256x128x128 : Shape := ⟨3, ![256, 128, 128]⟩
abbrev S32x128 : Shape := ⟨2, ![32, 128]⟩
abbrev S32x128x128 : Shape := ⟨3, ![32, 128, 128]⟩
abbrev S1x128 : Shape := ⟨2, ![1, 128]⟩
abbrev S128x128 : Shape := ⟨2, ![128, 128]⟩
abbrev S1x128x128 : Shape := ⟨3, ![1, 128, 128]⟩
abbrev S32x127 : Shape := ⟨2, ![32, 127]⟩
abbrev S32x1 : Shape := ⟨2, ![32, 1]⟩
abbrev S32x1x128 : Shape := ⟨3, ![32, 1, 128]⟩
abbrev S32x8x128 : Shape := ⟨3, ![32, 8, 128]⟩

abbrev nBuf : Space → Nat
  | .hbm => 3
  | .vmem => 7
  | .smem => 0
  | _ => 0

abbrev bufTy : (tb : Table) → Fin (tcTables nBuf tb) → BufTy
  | .hbm, ⟨0, _⟩ => ⟨S256x128, .f32⟩
  | .hbm, ⟨1, _⟩ => ⟨S256x128, .f32⟩
  | .hbm, ⟨2, _⟩ => ⟨S256x128x128, .f32⟩
  | .local _ .vmem, ⟨0, _⟩ => ⟨S32x128, .f32⟩
  | .local _ .vmem, ⟨1, _⟩ => ⟨S32x128, .f32⟩
  | .local _ .vmem, ⟨2, _⟩ => ⟨S32x128, .f32⟩
  | .local _ .vmem, ⟨3, _⟩ => ⟨S32x128, .f32⟩
  | .local _ .vmem, ⟨4, _⟩ => ⟨S32x128x128, .f32⟩
  | .local _ .vmem, ⟨5, _⟩ => ⟨S32x128x128, .f32⟩
  | .local _ .vmem, ⟨6, _⟩ => ⟨S32x128x128, .f32⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_9 : BitVec 32 := 0#32
  let c32_i32 : BitVec 32 := 32#32
  let v39 : BitVec 32 := Scalar.addi c0_i32_9 c32_i32
  let c1_i32_10 : BitVec 32 := 1#32
  ⟨c0_i32_9, v39, c1_i32_10⟩
@[reducible] def k0_t2_loop : Scf.Loop 32 :=
  let c0_i32_26 : BitVec 32 := 0#32
  let c16_i32 : BitVec 32 := 16#32
  let v143 : BitVec 32 := Scalar.addi c0_i32_26 c16_i32
  let c1_i32_27 : BitVec 32 := 1#32
  ⟨c0_i32_26, v143, c1_i32_27⟩
def k0_off1 (k0_t2 : Fin k0_t2_loop.trips) : Fin 3 → Nat :=
  let c0_46 : Index := 0#32
  let c0_i32_26 : BitVec 32 := 0#32
  let c1_i32_27 : BitVec 32 := 1#32
  let arg7 : BitVec 32 := Scf.iv c0_i32_26 c1_i32_27 k0_t2
  let c8_i32 : BitVec 32 := 8#32
  let v246 : BitVec 32 := Scalar.muli arg7 c8_i32
  let v247 : Index := Scalar.indexCast v246
  let c0_47 : Index := 0#32
  ![0, v247.toNat, 0]
@[reducible] def k0_t3_loop : Scf.Loop 32 :=
  let c0_i32_42 : BitVec 32 := 0#32
  let c16_i32_43 : BitVec 32 := 16#32
  let v245 : BitVec 32 := Scalar.addi c0_i32_42 c16_i32_43
  let c1_i32_44 : BitVec 32 := 1#32
  ⟨c0_i32_42, v245, c1_i32_44⟩
def k0_off2 (k0_t3 : Fin k0_t3_loop.trips) : Fin 3 → Nat :=
  let c0_46 : Index := 0#32
  let c0_i32_42 : BitVec 32 := 0#32
  let c1_i32_44 : BitVec 32 := 1#32
  let arg7 : BitVec 32 := Scf.iv c0_i32_42 c1_i32_44 k0_t3
  let c8_i32 : BitVec 32 := 8#32
  let v246 : BitVec 32 := Scalar.muli arg7 c8_i32
  let v247 : Index := Scalar.indexCast v246
  let c0_47 : Index := 0#32
  ![0, v247.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S256x128 : Shape := ⟨2, ![256, 128]⟩
abbrev S128x128 : Shape := ⟨2, ![128, 128]⟩
abbrev S_ : Shape := ⟨0, ![]⟩
abbrev S256x128x128 : Shape := ⟨3, ![256, 128, 128]⟩
abbrev S256x64 : Shape := ⟨2, ![256, 64]⟩
abbrev S256x128x64 : Shape := ⟨3, ![256, 128, 64]⟩
abbrev S256x1x64 : Shape := ⟨3, ![256, 1, 64]⟩
abbrev S256x64x1 : Shape := ⟨3, ![256, 64, 1]⟩
abbrev S256x64x2 : Shape := ⟨3, ![256, 64, 2]⟩
abbrev S256x128x64x1 : Shape := ⟨4, ![256, 128, 64, 1]⟩
abbrev S256x128x64x2 : Shape := ⟨4, ![256, 128, 64, 2]⟩
abbrev S256x126 : Shape := ⟨2, ![256, 126]⟩
abbrev S256x128x126 : Shape := ⟨3, ![256, 128, 126]⟩
abbrev S256x63 : Shape := ⟨2, ![256, 63]⟩
abbrev S256x128x63 : Shape := ⟨3, ![256, 128, 63]⟩
abbrev S256x1x63 : Shape := ⟨3, ![256, 1, 63]⟩
abbrev S256x63x1 : Shape := ⟨3, ![256, 63, 1]⟩
abbrev S256x63x2 : Shape := ⟨3, ![256, 63, 2]⟩
abbrev S256x128x63x1 : Shape := ⟨4, ![256, 128, 63, 1]⟩
abbrev S256x128x63x2 : Shape := ⟨4, ![256, 128, 63, 2]⟩
abbrev S256x1 : Shape := ⟨2, ![256, 1]⟩
abbrev S256x128x1 : Shape := ⟨3, ![256, 128, 1]⟩

abbrev nBuf : Space → Nat
  | .hbm => 153
  | .vmem => 0
  | .smem => 0
  | _ => 0

abbrev hbmTy0_0 (i : Nat) : BufTy := match i % 128 with
  | 0 => ⟨S256x128, .f32⟩
  | 1 => ⟨S128x128, .i32⟩
  | 2 => ⟨S128x128, .i32⟩
  | 3 => ⟨S_, .i32⟩
  | 4 => ⟨S128x128, .i32⟩
  | 5 => ⟨S128x128, .i32⟩
  | 6 => ⟨S128x128, .i1⟩
  | 7 => ⟨S128x128, .f32⟩
  | 8 => ⟨S256x128x128, .f32⟩
  | 9 => ⟨S_, .i32⟩
  | 10 => ⟨S_, .i32⟩
  | 11 => ⟨S_, .i32⟩
  | 12 => ⟨S_, .i32⟩
  | 13 => ⟨S256x128, .f32⟩
  | 14 => ⟨S256x128x128, .f32⟩
  | 15 => ⟨S_, .i32⟩
  | 16 => ⟨S_, .i1⟩
  | 17 => ⟨S_, .i32⟩
  | 18 => ⟨S_, .i32⟩
  | 19 => ⟨S256x64, .f32⟩
  | 20 => ⟨S256x64, .f32⟩
  | 21 => ⟨S256x64, .f32⟩
  | 22 => ⟨S_, .f32⟩
  | 23 => ⟨S256x64, .f32⟩
  | 24 => ⟨S256x64, .f32⟩
  | 25 => ⟨S256x64, .f32⟩
  | 26 => ⟨S256x64, .f32⟩
  | 27 => ⟨S_, .f32⟩
  | 28 => ⟨S256x64, .f32⟩
  | 29 => ⟨S256x64, .f32⟩
  | 30 => ⟨S_, .f32⟩
  | 31 => ⟨S256x64, .f32⟩
  | 32 => ⟨S256x64, .f32⟩
  | 33 => ⟨S256x64, .f32⟩
  | 34 => ⟨S256x64, .f32⟩
  | 35 => ⟨S256x64, .f32⟩
  | 36 => ⟨S_, .f32⟩
  | 37 => ⟨S256x64, .f32⟩
  | 38 => ⟨S256x64, .f32⟩
  | 39 => ⟨S_, .f32⟩
  | 40 => ⟨S256x64, .f32⟩
  | 41 => ⟨S256x64, .f32⟩
  | 42 => ⟨S256x128x64, .f32⟩
  | 43 => ⟨S256x128x64, .f32⟩
  | 44 => ⟨S256x1x64, .f32⟩
  | 45 => ⟨S256x128x64, .f32⟩
  | 46 => ⟨S256x128x64, .f32⟩
  | 47 => ⟨S_, .f32⟩
  | 48 => ⟨S256x1x64, .f32⟩
  | 49 => ⟨S256x1x64, .f32⟩
  | 50 => ⟨S256x128x64, .f32⟩
  | 51 => ⟨S256x128x64, .f32⟩
  | 52 => ⟨S256x128x64, .f32⟩
  | 53 => ⟨S_, .f32⟩
  | 54 => ⟨S256x1x64, .f32⟩
  | 55 => ⟨S256x1x64, .f32⟩
  | 56 => ⟨S256x128x64, .f32⟩
  | 57 => ⟨S256x128x64, .f32⟩
  | 58 => ⟨S256x128x64, .f32⟩
  | 59 => ⟨S256x128x64, .f32⟩
  | 60 => ⟨S256x128x64, .f32⟩
  | 61 => ⟨S256x64, .f32⟩
  | 62 => ⟨S_, .f32⟩
  | 63 => ⟨S256x64, .f32⟩
  | 64 => ⟨S256x64, .f32⟩
  | 65 => ⟨S256x64, .f32⟩
  | 66 => ⟨S256x64, .f32⟩
  | 67 => ⟨S_, .f32⟩
  | 68 => ⟨S256x64, .f32⟩
  | 69 => ⟨S256x64, .f32⟩
  | 70 => ⟨S256x64, .f32⟩
  | 71 => ⟨S256x64, .f32⟩
  | 72 => ⟨S256x64, .f32⟩
  | 73 => ⟨S256x64x1, .f32⟩
  | 74 => ⟨S256x64x1, .f32⟩
  | 75 => ⟨S256x64x2, .f32⟩
  | 76 => ⟨S256x128, .f32⟩
  | 77 => ⟨S256x128x64x1, .f32⟩
  | 78 => ⟨S256x128x64x1, .f32⟩
  | 79 => ⟨S256x128x64x2, .f32⟩
  | 80 => ⟨S256x128x128, .f32⟩
  | 81 => ⟨S256x126, .f32⟩
  | 82 => ⟨S256x128x126, .f32⟩
  | 83 => ⟨S256x63, .f32⟩
  | 84 => ⟨S256x63, .f32⟩
  | 85 => ⟨S256x63, .f32⟩
  | 86 => ⟨S_, .f32⟩
  | 87 => ⟨S256x63, .f32⟩
  | 88 => ⟨S256x63, .f32⟩
  | 89 => ⟨S256x63, .f32⟩
  | 90 => ⟨S256x63, .f32⟩
  | 91 => ⟨S_, .f32⟩
  | 92 => ⟨S256x63, .f32⟩
  | 93 => ⟨S256x63, .f32⟩
  | 94 => ⟨S_, .f32⟩
  | 95 => ⟨S256x63, .f32⟩
  | 96 => ⟨S256x63, .f32⟩
  | 97 => ⟨S256x63, .f32⟩
  | 98 => ⟨S256x63, .f32⟩
  | 99 => ⟨S256x63, .f32⟩
  | 100 => ⟨S_, .f32⟩
  | 101 => ⟨S256x63, .f32⟩
  | 102 => ⟨S256x63, .f32⟩
  | 103 => ⟨S_, .f32⟩
  | 104 => ⟨S256x63, .f32⟩
  | 105 => ⟨S256x63, .f32⟩
  | 106 => ⟨S256x128x63, .f32⟩
  | 107 => ⟨S256x128x63, .f32⟩
  | 108 => ⟨S256x1x63, .f32⟩
  | 109 => ⟨S256x128x63, .f32⟩
  | 110 => ⟨S256x128x63, .f32⟩
  | 111 => ⟨S_, .f32⟩
  | 112 => ⟨S256x1x63, .f32⟩
  | 113 => ⟨S256x1x63, .f32⟩
  | 114 => ⟨S256x128x63, .f32⟩
  | 115 => ⟨S256x128x63, .f32⟩
  | 116 => ⟨S256x128x63, .f32⟩
  | 117 => ⟨S_, .f32⟩
  | 118 => ⟨S256x1x63, .f32⟩
  | 119 => ⟨S256x1x63, .f32⟩
  | 120 => ⟨S256x128x63, .f32⟩
  | 121 => ⟨S256x128x63, .f32⟩
  | 122 => ⟨S256x128x63, .f32⟩
  | 123 => ⟨S256x128x63, .f32⟩
  | 124 => ⟨S256x128x63, .f32⟩
  | 125 => ⟨S256x63, .f32⟩
  | 126 => ⟨S_, .f32⟩
  | 127 => ⟨S256x63, .f32⟩
  | _ => ⟨S256x128, .f32⟩

abbrev hbmTy0_1 (i : Nat) : BufTy := match i % 128 with
  | 0 => ⟨S256x63, .f32⟩
  | 1 => ⟨S256x63, .f32⟩
  | 2 => ⟨S256x63, .f32⟩
  | 3 => ⟨S_, .f32⟩
  | 4 => ⟨S256x63, .f32⟩
  | 5 => ⟨S256x63, .f32⟩
  | 6 => ⟨S256x63, .f32⟩
  | 7 => ⟨S256x63, .f32⟩
  | 8 => ⟨S256x63, .f32⟩
  | 9 => ⟨S256x63x1, .f32⟩
  | 10 => ⟨S256x63x1, .f32⟩
  | 11 => ⟨S256x63x2, .f32⟩
  | 12 => ⟨S256x126, .f32⟩
  | 13 => ⟨S256x128x63x1, .f32⟩
  | 14 => ⟨S256x128x63x1, .f32⟩
  | 15 => ⟨S256x128x63x2, .f32⟩
  | 16 => ⟨S256x128x126, .f32⟩
  | 17 => ⟨S256x1, .f32⟩
  | 18 => ⟨S256x1, .f32⟩
  | 19 => ⟨S256x128, .f32⟩
  | 20 => ⟨S256x128x1, .f32⟩
  | 21 => ⟨S256x128x1, .f32⟩
  | 22 => ⟨S256x128x128, .f32⟩
  | 23 => ⟨S_, .i32⟩
  | 24 => ⟨S_, .i32⟩
  | _ => ⟨S256x128, .f32⟩

abbrev hbmTy (i : Nat) : BufTy := match i / 128 with
  | 0 => hbmTy0_0 i
  | 1 => hbmTy0_1 i
  | _ => ⟨S256x128, .f32⟩

abbrev bufTy : (tb : Table) → Fin (tcTables nBuf tb) → BufTy
  | .hbm, ⟨i, _⟩ => hbmTy i
  | _, _ => ⟨S256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c_0 : Ref sig .tc := ⟨.hbm, 9, rfl⟩
abbrev main_c_1 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v7_3 : Ref sig .tc := ⟨.hbm, 14, rfl⟩
abbrev main_while0c_c_5 : Ref sig .tc := ⟨.hbm, 15, rfl⟩
abbrev main_while0c_v8 : Ref sig .tc := ⟨.hbm, 16, rfl⟩
abbrev main_while0b_c_5 : Ref sig .tc := ⟨.hbm, 17, rfl⟩
abbrev main_while0b_v8 : Ref sig .tc := ⟨.hbm, 18, rfl⟩
abbrev main_while0b_v9 : Ref sig .tc := ⟨.hbm, 19, rfl⟩
abbrev main_while0b_v10 : Ref sig .tc := ⟨.hbm, 20, rfl⟩
abbrev main_while0b_v11 : Ref sig .tc := ⟨.hbm, 21, rfl⟩
abbrev main_while0b_cst : Ref sig .tc := ⟨.hbm, 22, rfl⟩
abbrev main_while0b_v12 : Ref sig .tc := ⟨.hbm, 23, rfl⟩
abbrev main_while0b_v13 : Ref sig .tc := ⟨.hbm, 24, rfl⟩
abbrev main_while0b_v14 : Ref sig .tc := ⟨.hbm, 25, rfl⟩
abbrev main_while0b_v15 : Ref sig .tc := ⟨.hbm, 26, rfl⟩
abbrev main_while0b_cst_6 : Ref sig .tc := ⟨.hbm, 27, rfl⟩
abbrev main_while0b_v16 : Ref sig .tc := ⟨.hbm, 28, rfl⟩
abbrev main_while0b_v17 : Ref sig .tc := ⟨.hbm, 29, rfl⟩
abbrev main_while0b_cst_7 : Ref sig .tc := ⟨.hbm, 30, rfl⟩
abbrev main_while0b_v18 : Ref sig .tc := ⟨.hbm, 31, rfl⟩
abbrev main_while0b_v19 : Ref sig .tc := ⟨.hbm, 32, rfl⟩
abbrev main_while0b_v20 : Ref sig .tc := ⟨.hbm, 33, rfl⟩
abbrev main_while0b_v21 : Ref sig .tc := ⟨.hbm, 34, rfl⟩
abbrev main_while0b_v22 : Ref sig .tc := ⟨.hbm, 35, rfl⟩
abbrev main_while0b_cst_8 : Ref sig .tc := ⟨.hbm, 36, rfl⟩
abbrev main_while0b_v23 : Ref sig .tc := ⟨.hbm, 37, rfl⟩
abbrev main_while0b_v24 : Ref sig .tc := ⟨.hbm, 38, rfl⟩
abbrev main_while0b_cst_9 : Ref sig .tc := ⟨.hbm, 39, rfl⟩
abbrev main_while0b_v25 : Ref sig .tc := ⟨.hbm, 40, rfl⟩
abbrev main_while0b_v26 : Ref sig .tc := ⟨.hbm, 41, rfl⟩
abbrev main_while0b_v27 : Ref sig .tc := ⟨.hbm, 42, rfl⟩
abbrev main_while0b_v28 : Ref sig .tc := ⟨.hbm, 43, rfl⟩
abbrev main_while0b_v29 : Ref sig .tc := ⟨.hbm, 44, rfl⟩
abbrev main_while0b_v30 : Ref sig .tc := ⟨.hbm, 45, rfl⟩
abbrev main_while0b_v31 : Ref sig .tc := ⟨.hbm, 46, rfl⟩
abbrev main_while0b_cst_10 : Ref sig .tc := ⟨.hbm, 47, rfl⟩
abbrev main_while0b_v32 : Ref sig .tc := ⟨.hbm, 48, rfl⟩
abbrev main_while0b_v33 : Ref sig .tc := ⟨.hbm, 49, rfl⟩
abbrev main_while0b_v34 : Ref sig .tc := ⟨.hbm, 50, rfl⟩
abbrev main_while0b_v35 : Ref sig .tc := ⟨.hbm, 51, rfl⟩
abbrev main_while0b_v36 : Ref sig .tc := ⟨.hbm, 52, rfl⟩
abbrev main_while0b_cst_11 : Ref sig .tc := ⟨.hbm, 53, rfl⟩
abbrev main_while0b_v37 : Ref sig .tc := ⟨.hbm, 54, rfl⟩
abbrev main_while0b_v38 : Ref sig .tc := ⟨.hbm, 55, rfl⟩
abbrev main_while0b_v39 : Ref sig .tc := ⟨.hbm, 56, rfl⟩
abbrev main_while0b_v40 : Ref sig .tc := ⟨.hbm, 57, rfl⟩
abbrev main_while0b_v41 : Ref sig .tc := ⟨.hbm, 58, rfl⟩
abbrev main_while0b_v42 : Ref sig .tc := ⟨.hbm, 59, rfl⟩
abbrev main_while0b_v43 : Ref sig .tc := ⟨.hbm, 60, rfl⟩
abbrev main_while0b_v44 : Ref sig .tc := ⟨.hbm, 61, rfl⟩
abbrev main_while0b_cst_12 : Ref sig .tc := ⟨.hbm, 62, rfl⟩
abbrev main_while0b_v45 : Ref sig .tc := ⟨.hbm, 63, rfl⟩
abbrev main_while0b_v46 : Ref sig .tc := ⟨.hbm, 64, rfl⟩
abbrev main_while0b_v47 : Ref sig .tc := ⟨.hbm, 65, rfl⟩
abbrev main_while0b_v48 : Ref sig .tc := ⟨.hbm, 66, rfl⟩
abbrev main_while0b_cst_13 : Ref sig .tc := ⟨.hbm, 67, rfl⟩
abbrev main_while0b_v49 : Ref sig .tc := ⟨.hbm, 68, rfl⟩
abbrev main_while0b_v50 : Ref sig .tc := ⟨.hbm, 69, rfl⟩
abbrev main_while0b_v51 : Ref sig .tc := ⟨.hbm, 70, rfl⟩
abbrev main_while0b_v52 : Ref sig .tc := ⟨.hbm, 71, rfl⟩
abbrev main_while0b_v53 : Ref sig .tc := ⟨.hbm, 72, rfl⟩
abbrev main_while0b_v54 : Ref sig .tc := ⟨.hbm, 73, rfl⟩
abbrev main_while0b_v55 : Ref sig .tc := ⟨.hbm, 74, rfl⟩
abbrev main_while0b_v56 : Ref sig .tc := ⟨.hbm, 75, rfl⟩
abbrev main_while0b_v57 : Ref sig .tc := ⟨.hbm, 76, rfl⟩
abbrev main_while0b_v58 : Ref sig .tc := ⟨.hbm, 77, rfl⟩
abbrev main_while0b_v59 : Ref sig .tc := ⟨.hbm, 78, rfl⟩
abbrev main_while0b_v60 : Ref sig .tc := ⟨.hbm, 79, rfl⟩
abbrev main_while0b_v61 : Ref sig .tc := ⟨.hbm, 80, rfl⟩
abbrev main_while0b_v62 : Ref sig .tc := ⟨.hbm, 81, rfl⟩
abbrev main_while0b_v63 : Ref sig .tc := ⟨.hbm, 82, rfl⟩
abbrev main_while0b_v64 : Ref sig .tc := ⟨.hbm, 83, rfl⟩
abbrev main_while0b_v65 : Ref sig .tc := ⟨.hbm, 84, rfl⟩
abbrev main_while0b_v66 : Ref sig .tc := ⟨.hbm, 85, rfl⟩
abbrev main_while0b_cst_14 : Ref sig .tc := ⟨.hbm, 86, rfl⟩
abbrev main_while0b_v67 : Ref sig .tc := ⟨.hbm, 87, rfl⟩
abbrev main_while0b_v68 : Ref sig .tc := ⟨.hbm, 88, rfl⟩
abbrev main_while0b_v69 : Ref sig .tc := ⟨.hbm, 89, rfl⟩
abbrev main_while0b_v70 : Ref sig .tc := ⟨.hbm, 90, rfl⟩
abbrev main_while0b_cst_15 : Ref sig .tc := ⟨.hbm, 91, rfl⟩
abbrev main_while0b_v71 : Ref sig .tc := ⟨.hbm, 92, rfl⟩
abbrev main_while0b_v72 : Ref sig .tc := ⟨.hbm, 93, rfl⟩
abbrev main_while0b_cst_16 : Ref sig .tc := ⟨.hbm, 94, rfl⟩
abbrev main_while0b_v73 : Ref sig .tc := ⟨.hbm, 95, rfl⟩
abbrev main_while0b_v74 : Ref sig .tc := ⟨.hbm, 96, rfl⟩
abbrev main_while0b_v75 : Ref sig .tc := ⟨.hbm, 97, rfl⟩
abbrev main_while0b_v76 : Ref sig .tc := ⟨.hbm, 98, rfl⟩
abbrev main_while0b_v77 : Ref sig .tc := ⟨.hbm, 99, rfl⟩
abbrev main_while0b_cst_17 : Ref sig .tc := ⟨.hbm, 100, rfl⟩
abbrev main_while0b_v78 : Ref sig .tc := ⟨.hbm, 101, rfl⟩
abbrev main_while0b_v79 : Ref sig .tc := ⟨.hbm, 102, rfl⟩
abbrev main_while0b_cst_18 : Ref sig .tc := ⟨.hbm, 103, rfl⟩
abbrev main_while0b_v80 : Ref sig .tc := ⟨.hbm, 104, rfl⟩
abbrev main_while0b_v81 : Ref sig .tc := ⟨.hbm, 105, rfl⟩
abbrev main_while0b_v82 : Ref sig .tc := ⟨.hbm, 106, rfl⟩
abbrev main_while0b_v83 : Ref sig .tc := ⟨.hbm, 107, rfl⟩
abbrev main_while0b_v84 : Ref sig .tc := ⟨.hbm, 108, rfl⟩
abbrev main_while0b_v85 : Ref sig .tc := ⟨.hbm, 109, rfl⟩
abbrev main_while0b_v86 : Ref sig .tc := ⟨.hbm, 110, rfl⟩
abbrev main_while0b_cst_19 : Ref sig .tc := ⟨.hbm, 111, rfl⟩
abbrev main_while0b_v87 : Ref sig .tc := ⟨.hbm, 112, rfl⟩
abbrev main_while0b_v88 : Ref sig .tc := ⟨.hbm, 113, rfl⟩
abbrev main_while0b_v89 : Ref sig .tc := ⟨.hbm, 114, rfl⟩
abbrev main_while0b_v90 : Ref sig .tc := ⟨.hbm, 115, rfl⟩
abbrev main_while0b_v91 : Ref sig .tc := ⟨.hbm, 116, rfl⟩
abbrev main_while0b_cst_20 : Ref sig .tc := ⟨.hbm, 117, rfl⟩
abbrev main_while0b_v92 : Ref sig .tc := ⟨.hbm, 118, rfl⟩
abbrev main_while0b_v93 : Ref sig .tc := ⟨.hbm, 119, rfl⟩
abbrev main_while0b_v94 : Ref sig .tc := ⟨.hbm, 120, rfl⟩
abbrev main_while0b_v95 : Ref sig .tc := ⟨.hbm, 121, rfl⟩
abbrev main_while0b_v96 : Ref sig .tc := ⟨.hbm, 122, rfl⟩
abbrev main_while0b_v97 : Ref sig .tc := ⟨.hbm, 123, rfl⟩
abbrev main_while0b_v98 : Ref sig .tc := ⟨.hbm, 124, rfl⟩
abbrev main_while0b_v99 : Ref sig .tc := ⟨.hbm, 125, rfl⟩
abbrev main_while0b_cst_21 : Ref sig .tc := ⟨.hbm, 126, rfl⟩
abbrev main_while0b_v100 : Ref sig .tc := ⟨.hbm, 127, rfl⟩
abbrev main_while0b_v101 : Ref sig .tc := ⟨.hbm, 128, rfl⟩
abbrev main_while0b_v102 : Ref sig .tc := ⟨.hbm, 129, rfl⟩
abbrev main_while0b_v103 : Ref sig .tc := ⟨.hbm, 130, rfl⟩
abbrev main_while0b_cst_22 : Ref sig .tc := ⟨.hbm, 131, rfl⟩
abbrev main_while0b_v104 : Ref sig .tc := ⟨.hbm, 132, rfl⟩
abbrev main_while0b_v105 : Ref sig .tc := ⟨.hbm, 133, rfl⟩
abbrev main_while0b_v106 : Ref sig .tc := ⟨.hbm, 134, rfl⟩
abbrev main_while0b_v107 : Ref sig .tc := ⟨.hbm, 135, rfl⟩
abbrev main_while0b_v108 : Ref sig .tc := ⟨.hbm, 136, rfl⟩
abbrev main_while0b_v109 : Ref sig .tc := ⟨.hbm, 137, rfl⟩
abbrev main_while0b_v110 : Ref sig .tc := ⟨.hbm, 138, rfl⟩
abbrev main_while0b_v111 : Ref sig .tc := ⟨.hbm, 139, rfl⟩
abbrev main_while0b_v112 : Ref sig .tc := ⟨.hbm, 140, rfl⟩
abbrev main_while0b_v113 : Ref sig .tc := ⟨.hbm, 141, rfl⟩
abbrev main_while0b_v114 : Ref sig .tc := ⟨.hbm, 142, rfl⟩
abbrev main_while0b_v115 : Ref sig .tc := ⟨.hbm, 143, rfl⟩
abbrev main_while0b_v116 : Ref sig .tc := ⟨.hbm, 144, rfl⟩
abbrev main_while0b_v117 : Ref sig .tc := ⟨.hbm, 145, rfl⟩
abbrev main_while0b_v118 : Ref sig .tc := ⟨.hbm, 146, rfl⟩
abbrev main_while0b_v119 : Ref sig .tc := ⟨.hbm, 147, rfl⟩
abbrev main_while0b_v120 : Ref sig .tc := ⟨.hbm, 148, rfl⟩
abbrev main_while0b_v121 : Ref sig .tc := ⟨.hbm, 149, rfl⟩
abbrev main_while0b_v122 : Ref sig .tc := ⟨.hbm, 150, rfl⟩
abbrev main_while0b_c_23 : Ref sig .tc := ⟨.hbm, 151, rfl⟩
abbrev main_while0b_v123 : Ref sig .tc := ⟨.hbm, 152, rfl⟩

abbrev nD : Nat := 1
abbrev τ : Topo := Topo.v7x

variable {F : FTy → Type} [FloatOps F]

abbrev main_while0_count : Scf.Loop 32 := ⟨0#32, 64#32, 1#32⟩
-- ==== Proof.KernelIdealLoops.lean ====
/-
  The two inner loops of the fused kernel (hand-written). Each goes through the permutation matrix eight rows at a
  time: it loads the eight rows from one buffer, mixes every entry with its neighbours along the row, and stores the
  result at the same rows of the other buffer. Here: what one trip writes, and that after the sixteen trips the target
  buffer reads as the row-wise map of the source buffer, whatever it held before.
-/
module

public import proofs.«01_k».proof.Defs
public import proofs.«01_k».proof.Proof.Gen.KernelIdeal.Loops
public import Idealize.ShloMosaic.Lib.Pipeline.FrameBody
public import Idealize.ShloMosaic.Lib.Pipeline.Value
public import Idealize.ShloMosaic.Lib.Tactic

@[expose] public section

noncomputable section

namespace Cert.Sort.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

/-! ## Eight rows of a matrix block -/

/-- The eight rows from `8 n` on stay inside the block. -/
theorem rows_inb (n : ℕ) (h : n < 16) : ∀ a, (![0, 8 * n, 0] : Fin 3 → ℕ) a + S32x8x128.size a ≤ S32x128x128.size a := by
  intro a
  match a with
  | ⟨0, _⟩ => show 0 + 32 ≤ 32; omega
  | ⟨1, _⟩ => show 8 * n + 8 ≤ 128; omega
  | ⟨2, _⟩ => show 0 + 128 ≤ 128; omega

/-- The rectangle of the eight rows from `8 n` on, all 32 matrices and all 128 columns. -/
abbrev rows (n : ℕ) (h : n < 16) : Rect S32x128x128 := Rect.unit (s := S32x128x128) ![0, 8 * n, 0] S32x8x128.size (rows_inb n h)

/-- The row chunk an index lies in, -/
theorem chunk_lt (y : S32x128x128.Idx) : (y 1 : Nat) / 8 < 16 := by
  have h : (y 1 : Nat) < 128 := (y 1).isLt
  omega

/-- and the index inside that chunk. -/
def inChunk (y : S32x128x128.Idx) : S32x8x128.Idx := fun a =>
  match a with
  | ⟨0, _⟩ => ⟨(y 0 : Nat), (y 0).isLt⟩
  | ⟨1, _⟩ => ⟨(y 1 : Nat) % 8, Nat.mod_lt _ (by decide)⟩
  | ⟨2, _⟩ => ⟨(y 2 : Nat), (y 2).isLt⟩

/-- The index inside its chunk, placed at the chunk's rows, is the index. -/
theorem emb_inChunk (y : S32x128x128.Idx) : (rows _ (chunk_lt y)).emb (inChunk y) = y := by
  funext a
  match a with
  | ⟨0, _⟩ => refine Fin.ext ?_; show 0 + 1 * (y 0 : Nat) = (y 0 : Nat); omega
  | ⟨1, _⟩ => refine Fin.ext ?_; show 8 * ((y 1 : Nat) / 8) + 1 * ((y 1 : Nat) % 8) = (y 1 : Nat); omega
  | ⟨2, _⟩ => refine Fin.ext ?_; show 0 + 1 * (y 2 : Nat) = (y 2 : Nat); omega

/-- The chunk of an index placed at the rows of chunk `n` is `n`, -/
theorem chunk_emb (n : ℕ) (h : n < 16) (x : (rows n h).shape.Idx) : ((rows n h).emb x 1 : Nat) / 8 = n := by
  have hx : (x 1 : Nat) < 8 := (x 1).isLt
  show (8 * n + 1 * (x 1 : Nat)) / 8 = n
  omega

/-- and its index inside the chunk is the one it was placed from. -/
theorem inChunk_emb (n : ℕ) (h : n < 16) (x : (rows n h).shape.Idx) : inChunk ((rows n h).emb x) = x := by
  funext a
  have hx : (x 1 : Nat) < 8 := (x 1).isLt
  match a with
  | ⟨0, _⟩ => refine Fin.ext ?_; show 0 + 1 * (x 0 : Nat) = (x 0 : Nat); omega
  | ⟨1, _⟩ => refine Fin.ext ?_; show (8 * n + 1 * (x 1 : Nat)) % 8 = (x 1 : Nat); omega
  | ⟨2, _⟩ => refine Fin.ext ?_; show 0 + 1 * (x 2 : Nat) = (x 2 : Nat); omega

/-- A map of eight-row chunks, applied chunk by chunk to a whole block. -/
def byChunks (f : Vec F S32x8x128 .f32 → Vec F S32x8x128 .f32) (X : Vec F S32x128x128 .f32) : Vec F S32x128x128 .f32 :=
  fun y => f (View.ld X (rows _ (chunk_lt y))) (inChunk y)

theorem byChunks_emb (f : Vec F S32x8x128 .f32 → Vec F S32x8x128 .f32) (X : Vec F S32x128x128 .f32) (n : ℕ) (h : n < 16)
    (x : (rows n h).shape.Idx) : byChunks f X ((rows n h).emb x) = f (View.ld X (rows n h)) x := by
  have e : ∀ (n' : ℕ) (h' : n' < 16) (x' : S32x8x128.Idx), n' = n → x' = x →
      f (View.ld X (rows n' h')) x' = f (View.ld X (rows n h)) x := by
    intro n' h' x' e1 e2; subst e1; subst e2; rfl
  exact e _ _ _ (chunk_emb n h x) (inChunk_emb n h x)

/-- What a buffer reads after the sixteen chunks of `byChunks f X` are written, whatever it held before. -/
theorem read_chunks {sp : Space} (v : View sig .tc sp S32x128x128 .f32) (G : v.ty.Contents (Elt F))
    (f : Vec F S32x8x128 .f32 → Vec F S32x8x128 .f32) (X : Vec F S32x128x128 .f32)
    (L : ℕ → List (View.Piece (Elt F) S32x128x128 .f32)) (h0 : L 0 = [])
    (hs : ∀ n, ∀ h : n < 16, L (n + 1) = ⟨rows n h, f (View.ld X (rows n h))⟩ :: L n) :
    v.read (Elt F) (v.writes (Elt F) G (L 16)) = byChunks f X := by
  have hmem : ∀ k, k ≤ 16 → ∀ n, ∀ h : n < 16, n < k →
      (⟨rows n h, f (View.ld X (rows n h))⟩ : View.Piece (Elt F) S32x128x128 .f32) ∈ L k := by
    intro k
    induction k with
    | zero => intro _ n h hn; omega
    | succ k ih =>
      intro hk n h hn
      rw [hs k (by omega)]
      rcases Nat.lt_succ_iff_lt_or_eq.mp hn with hlt | rfl
      · exact List.mem_cons_of_mem _ (ih (by omega) n h hlt)
      · exact List.mem_cons_self
  have hall : ∀ k, k ≤ 16 → ∀ p ∈ L k, ∃ n, ∃ h : n < 16, p = ⟨rows n h, f (View.ld X (rows n h))⟩ := by
    intro k
    induction k with
    | zero => intro _ p hp; rw [h0] at hp; simp at hp
    | succ k ih =>
      intro hk p hp
      rw [hs k (by omega)] at hp
      rcases List.mem_cons.mp hp with rfl | hp
      · exact ⟨k, by omega, rfl⟩
      · exact ih (by omega) p hp
  have hcov : ∀ y, ∃ p ∈ L 16, y ∈ p.1.set := fun y =>
    ⟨_, hmem 16 (le_refl _) _ (chunk_lt y) (chunk_lt y), by
      have hm : (rows _ (chunk_lt y)).emb (inChunk y) ∈ (rows _ (chunk_lt y)).set := (rows _ (chunk_lt y)).idx_mem (inChunk y)
      rw [emb_inChunk] at hm; exact hm⟩
  rw [View.read_writes_eq_canon v G (L 16) hcov]
  funext y
  refine View.canon_apply_of_pieces (byChunks f X) (L 16) (fun p hp x => ?_) y (hcov y)
  obtain ⟨n, h, rfl⟩ := hall 16 (le_refl _) p hp
  exact (byChunks_emb f X n h x).symm

/-! ## The two loops -/

section
variable (𝒱 : Variants) (c : Dev nD) (bd : Option 𝒱.V) (i : grid0.Coords) (arg1 : Memref sig .tc .vmem S32x128 .f32) (harg1 : arg1.IsWhole) (arg2 : Memref sig .tc .vmem S32x128 .f32) (harg2 : arg2.IsWhole) (arg3 : Memref sig .tc .vmem S32x128x128 .f32) (harg3 : arg3.IsWhole) (arg4 : Memref sig .tc .vmem S32x128x128 .f32) (harg4 : arg4.IsWhole) (v19 v24 v29 : IVec S1x128 1) (w1 w2 w3 w4 w5 : FVec F S32x128 .f32)

/-- Two pieces at equal offsets, each holding the same map of what the buffer reads there, are equal. -/
theorem piece_eq (f : Vec F S32x8x128 .f32 → Vec F S32x8x128 .f32) (X : Vec F S32x128x128 .f32) {o o' : Fin 3 → ℕ} (e : o = o')
    (h : ∀ a, o a + S32x8x128.size a ≤ S32x128x128.size a) (h' : ∀ a, o' a + S32x8x128.size a ≤ S32x128x128.size a) :
    (⟨Rect.unit (s := S32x128x128) o S32x8x128.size h, f (View.ld X (Rect.unit (s := S32x128x128) o S32x8x128.size h))⟩ : View.Piece (Elt F) S32x128x128 .f32)
      = ⟨Rect.unit (s := S32x128x128) o' S32x8x128.size h', f (View.ld X (Rect.unit (s := S32x128x128) o' S32x8x128.size h'))⟩ := by
  subst e; rfl

/-- One trip of the first inner loop writes one piece: the mix of the eight rows it loads, at those rows. -/
theorem tripL2_eq (X : BufTy.Contents (Elt F) arg3.view.ty) (k : Fin k0_t2_loop.trips) (h : k.val < 16) :
    tripL_k0_t2 (F := F) 𝒱 c bd i arg1 harg1 arg2 harg2 arg3 harg3 arg4 harg4 v19 v24 v29 w1 w2 w3 w4 w5 X k
      = [⟨rows k.val h, k0_pay9 v19 v24 v29 w1 w4 w5 (View.ld (arg3.view.read (Elt F) X) (rows k.val h))⟩] := by
  refine Eq.trans ?_ (congrArg (fun p => [p]) (piece_eq (k0_pay9 v19 v24 v29 w1 w4 w5) (arg3.view.read (Elt F) X) (k0_off1_eq k) (k0_off1_inb k) (rows_inb k.val h)))
  unfold tripL_k0_t2 trip_k0_t2
  rfl

/-- After the first inner loop its target reads as the chunk-wise mix of its source. -/
theorem read_loop2 (X : BufTy.Contents (Elt F) arg3.view.ty) (G : BufTy.Contents (Elt F) arg4.view.ty) :
    arg4.view.read (Elt F) (arg4.view.writes (Elt F) G (pb_k0_t2 (F := F) 𝒱 c bd i arg1 harg1 arg2 harg2 arg3 harg3 arg4 harg4 v19 v24 v29 w1 w2 w3 w4 w5 X k0_t2_loop.trips))
      = byChunks (k0_pay9 v19 v24 v29 w1 w4 w5) (arg3.view.read (Elt F) X) := by
  have ht : k0_t2_loop.trips = 16 := by decide
  rw [ht]
  refine read_chunks arg4.view G _ _ _ rfl fun n h => ?_
  have h' : n < k0_t2_loop.trips := by rw [ht]; exact h
  rw [show n + 1 = (⟨n, h'⟩ : Fin k0_t2_loop.trips).val + 1 from rfl, pb_k0_t2_succ, tripL2_eq _ _ _ _ _ _ _ _ _ _ _ _ _ _ _ _ _ _ _ _ _ ⟨n, h'⟩ h]
  rfl

/-- One trip of the second inner loop writes one piece: the mix of the eight rows it loads, at those rows. -/
theorem tripL3_eq (X : BufTy.Contents (Elt F) arg4.view.ty) (k : Fin k0_t3_loop.trips) (h : k.val < 16) :
    tripL_k0_t3 (F := F) 𝒱 c bd i arg1 harg1 arg2 harg2 arg3 harg3 arg4 harg4 v19 v24 v29 w1 w2 w3 w4 w5 X k
      = [⟨rows k.val h, k0_pay18 v19 v24 v29 w1 w4 w5 (View.ld (arg4.view.read (Elt F) X) (rows k.val h))⟩] := by
  refine Eq.trans ?_ (congrArg (fun p => [p]) (piece_eq (k0_pay18 v19 v24 v29 w1 w4 w5) (arg4.view.read (Elt F) X) (k0_off2_eq k) (k0_off2_inb k) (rows_inb k.val h)))
  unfold tripL_k0_t3 trip_k0_t3
  rfl

/-- After the second inner loop its target reads as the chunk-wise mix of its source. -/
theorem read_loop3 (X : BufTy.Contents (Elt F) arg4.view.ty) (G : BufTy.Contents (Elt F) arg3.view.ty) :
    arg3.view.read (Elt F) (arg3.view.writes (Elt F) G (pb_k0_t3 (F := F) 𝒱 c bd i arg1 harg1 arg2 harg2 arg3 harg3 arg4 harg4 v19 v24 v29 w1 w2 w3 w4 w5 X k0_t3_loop.trips))
      = byChunks (k0_pay18 v19 v24 v29 w1 w4 w5) (arg4.view.read (Elt F) X) := by
  have ht : k0_t3_loop.trips = 16 := by decide
  rw [ht]
  refine read_chunks arg3.view G _ _ _ rfl fun n h => ?_
  have h' : n < k0_t3_loop.trips := by rw [ht]; exact h
  rw [show n + 1 = (⟨n, h'⟩ : Fin k0_t3_loop.trips).val + 1 from rfl, pb_k0_t3_succ, tripL3_eq _ _ _ _ _ _ _ _ _ _ _ _ _ _ _ _ _ _ _ _ _ ⟨n, h'⟩ h]
  rfl

end

/-! ## Two network layers at once -/

/-- The values after the two layers a fused pass carries out. -/
def pairX (v19 v20 v24 v29 : IVec S1x128 1) (x : Vec F S32x128 .f32) : Vec F S32x128 .f32 :=
  k0_pay8 v24 v29 (k0_pay3 v19 v20 x) (k0_pay4 v19 v20 v24 x) (k0_pay5 v19 v20 v24 x) (k0_pay6 v19 v20 v24 x)

/-- The permutation matrices after those two layers. -/
def pairM (v19 v20 v24 v29 : IVec S1x128 1) (x : Vec F S32x128 .f32) (X : Vec F S32x128x128 .f32) : Vec F S32x128x128 .f32 :=
  byChunks (k0_pay9 v19 v24 v29 (k0_pay2 v19 v20 x) (k0_pay5 v19 v20 v24 x) (k0_pay6 v19 v20 v24 x)) X

/-- Values and matrices after `n` fused passes, from the values `x` and the identity matrices. -/
def passes (v19 v20 v24 v29 : IVec S1x128 1) (x : Vec F S32x128 .f32) : ℕ → Vec F S32x128 .f32 × Vec F S32x128x128 .f32
  | 0 => (x, k0_pay23)
  | n + 1 => (pairX v19 v20 v24 v29 (passes v19 v20 v24 v29 x n).1,
      pairM v19 v20 v24 v29 (passes v19 v20 v24 v29 x n).1 (passes v19 v20 v24 v29 x n).2)

/-! The second pass of a trip spells the same arithmetic as the first. -/

theorem pay11_eq (v19 v20 : IVec S1x128 1) (x : FVec F S32x128 .f32) : k0_pay11 v19 v20 x = k0_pay2 v19 v20 x := rfl
theorem pay12_eq (v19 v20 : IVec S1x128 1) (x : FVec F S32x128 .f32) : k0_pay12 v19 v20 x = k0_pay3 v19 v20 x := by
  unfold k0_pay12 k0_pay3; rw [pay11_eq]; rfl
theorem pay13_eq (v19 v20 v24 : IVec S1x128 1) (x : FVec F S32x128 .f32) : k0_pay13 v19 v20 v24 x = k0_pay4 v19 v20 v24 x := by
  unfold k0_pay13 k0_pay4; rw [pay12_eq]
theorem pay14_eq (v19 v20 v24 : IVec S1x128 1) (x : FVec F S32x128 .f32) : k0_pay14 v19 v20 v24 x = k0_pay5 v19 v20 v24 x := by
  unfold k0_pay14 k0_pay5; rw [pay13_eq, pay12_eq]
theorem pay15_eq (v19 v20 v24 : IVec S1x128 1) (x : FVec F S32x128 .f32) : k0_pay15 v19 v20 v24 x = k0_pay6 v19 v20 v24 x := by
  unfold k0_pay15 k0_pay6; rw [pay14_eq]
theorem pay16_eq (v24 v29 : IVec S1x128 1) (d e : FVec F S32x128 .f32) : k0_pay16 v24 v29 d e = k0_pay7 v24 v29 d e := rfl
theorem pay17_eq (v24 v29 : IVec S1x128 1) (a b d e : FVec F S32x128 .f32) : k0_pay17 v24 v29 a b d e = k0_pay8 v24 v29 a b d e := by
  unfold k0_pay17 k0_pay8; rw [pay16_eq]
theorem pay18_eq (v19 v24 v29 : IVec S1x128 1) (a b d : FVec F S32x128 .f32) : (k0_pay18 v19 v24 v29 a b d : Vec F S32x8x128 .f32 → _) = k0_pay9 v19 v24 v29 a b d := by
  funext X; simp only [k0_pay18, k0_pay9, pay16_eq, shapeCast_self]

/-- The second pass's values, -/
theorem pairX_second (v19 v20 v24 v29 : IVec S1x128 1) (x : Vec F S32x128 .f32) :
    k0_pay17 v24 v29 (k0_pay12 v19 v20 x) (k0_pay13 v19 v20 v24 x) (k0_pay14 v19 v20 v24 x) (k0_pay15 v19 v20 v24 x) = pairX v19 v20 v24 v29 x := by
  rw [pay17_eq, pay12_eq, pay13_eq, pay14_eq, pay15_eq]; rfl

/-- and its matrices. -/
theorem pairM_second (v19 v20 v24 v29 : IVec S1x128 1) (x : Vec F S32x128 .f32) (X : Vec F S32x128x128 .f32) :
    byChunks (k0_pay18 v19 v24 v29 (k0_pay11 v19 v20 x) (k0_pay14 v19 v20 v24 x) (k0_pay15 v19 v20 v24 x)) X = pairM v19 v20 v24 v29 x X := by
  rw [pay18_eq, pay11_eq, pay14_eq, pay15_eq]; rfl

end Cert.Sort.KernelIdeal
end
-- ==== Proof.KernelIdealBody.lean ====
/-
  The fused kernel's body (hand-written): the outer loop by its invariant, then one run of the body. From a block of 32
  input rows the body leaves the values and the permutation matrices after 64 fused passes (two layers each) in its two
  result blocks, whatever the result blocks and the scratch buffer held before.
-/
module

public import proofs.«01_k».proof.Proof.KernelIdealLoops
public import proofs.«01_k».proof.Proof.Gen.KernelIdeal.Frame
public import proofs.«01_k».proof.Proof.Gen.KernelIdeal.Points
public import proofs.«01_k».proof.Proof.Gen.KernelIdeal.Launch
public import Idealize.ShloMosaic.Lib.Pipeline.Frame
public import Idealize.ShloMosaic.Lib.Tactic

@[expose] public section

noncomputable section

namespace Cert.Sort.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

/-! ## The outer loop -/

/-- Before trip `k` of the outer loop: the carried values are those after `2 k` fused passes, the matrix block reads as
    the matrices after `2 k` passes, and the scratch buffer holds anything. -/
abbrev outerInv (c : Dev nD) (arg3 : Memref sig .tc .vmem S32x128x128 .f32) (arg4 : Memref sig .tc .vmem S32x128x128 .f32)
    (v19 v20 v24 v29 : IVec S1x128 1) (x : Vec F S32x128 .f32) (k : ℕ) (acc : Vec F S32x128 .f32) : sProp 𝕄 :=
  iprop((∃ f, (arg3.view.loc (c : Thread nD τ) ↦[arg3.view.set]{fullShare} f)
      ∗ ⌜arg3.view.read (Elt F) f = (passes v19 v20 v24 v29 x (2 * k)).2 ∧ acc = (passes v19 v20 v24 v29 x (2 * k)).1⌝)
    ∗ (∃ g, (arg4.view.loc (c : Thread nD τ) ↦[arg4.view.set]{fullShare} g)))

set_option warn.classDefReducibility false in
/-- The outer loop by that invariant: one trip is two fused passes, the first from the matrix block into the scratch
    buffer, the second back. -/
@[sl_loop] def loopInv_k0_t1 (c : Dev nD) (i : grid0.Coords) (arg1 : Memref sig .tc .vmem S32x128 .f32) (harg1 : arg1.IsWhole) (arg2 : Memref sig .tc .vmem S32x128 .f32) (harg2 : arg2.IsWhole) (arg3 : Memref sig .tc .vmem S32x128x128 .f32) (harg3 : arg3.IsWhole) (arg4 : Memref sig .tc .vmem S32x128x128 .f32) (harg4 : arg4.IsWhole) (v19 : IVec S1x128 1) (v20 : IVec S1x128 1) (v24 : IVec S1x128 1) (v29 : IVec S1x128 1) (c0_i32_9 : BitVec 32) (init : Vec F S32x128 .f32) :
    LoopInvTy_k0_t1 (F := F) Unit ℕ (UR sig nD τ) ℕ Variants.none c none Set.univ i arg1 harg1 arg2 harg2 arg3 harg3 arg4 harg4 v19 v20 v24 v29 c0_i32_9 init where
  inv k acc := outerInv c arg3 arg4 v19 v20 v24 v29 init k acc
  step k acc := by
    unfold k0_t1_body
    iintro ⟨⟨%f, H3, %hf⟩, ⟨%g, H4⟩⟩
    obtain ⟨hf, rfl⟩ := hf
    sl_exec
    sl_step
    isplitl [H3]
    · iexists _; isplitl [H3]; · iexact H3
      ipureintro
      rw [show 2 * (k.val + 1) = 2 * k.val + 1 + 1 from by omega]
      refine ⟨?_, (pairX_second v19 v20 v24 v29 (passes v19 v20 v24 v29 init (2 * k.val + 1)).1)⟩
      refine (read_loop3 Variants.none c none i arg1 harg1 arg2 harg2 arg3 harg3 arg4 harg4 v19 v24 v29 _ _ _ _ _ _ _).trans ?_
      refine Eq.trans ?_ (pairM_second v19 v20 v24 v29 (passes v19 v20 v24 v29 init (2 * k.val + 1)).1 (passes v19 v20 v24 v29 init (2 * k.val + 1)).2)
      refine congrArg (byChunks _) ?_
      refine (read_loop2 Variants.none c none i arg1 harg1 arg2 harg2 arg3 harg3 arg4 harg4 v19 v24 v29 _ _ _ _ _ _ _).trans ?_
      exact congrArg (byChunks _) hf
    · iexists _; iexact H4

/-! ## The body, run once -/

/-- The four lane masks the body computes: even lanes, all lanes, the lower lanes of the inner layer, and the lanes
    the inner layer touches. From them: the values a block of input rows ends at, -/
def outX (x : Vec F S32x128 .f32) : Vec F S32x128 .f32 := (passes k0_pay19 k0_pay20 k0_pay21 k0_pay22 x 64).1

/-- and the permutation matrices. -/
def outM (x : Vec F S32x128 .f32) : Vec F S32x128x128 .f32 := (passes k0_pay19 k0_pay20 k0_pay21 k0_pay22 x 64).2

/-- A load of the whole input block reads it. -/
theorem whole_read {arg1 : Memref sig .tc .vmem S32x128 .f32} (_ : arg1.IsWhole) (f : BufTy.Contents (Elt F) arg1.view.ty)
    {x : Vec F S32x128 .f32} (h : arg1.view.read (Elt F) f = x) :
    arg1.view.readAt (Elt F) (Rect.unit (s := S32x128) ![0, 0] S32x128.size inb_S32x128_S32x128_0_0).toLoadRect f = x :=
  (View.ld_unit_zero (S := S32x128) (by decide) inb_S32x128_S32x128_0_0 (arg1.view.read (Elt F) f)).trans h

/-- After one store of a whole block, the block reads what was stored: on the values' shape, -/
theorem read_whole2 (v : View sig .tc .vmem S32x128 .f32) (f : v.ty.Contents (Elt F)) (w : Vec F S32x128 .f32) :
    v.read (Elt F) (v.writes (Elt F) f [(⟨Rect.unit (s := S32x128) ![0, 0] S32x128.size inb_S32x128_S32x128_0_0, w⟩ : View.Piece (Elt F) S32x128 .f32)]) = w :=
  (View.read_writes_eq_canon v f _ fun y => ⟨_, List.mem_singleton.2 rfl, by
    rw [Rect.mem_set_unit]; exact fun a => ⟨by fin_cases a <;> exact Nat.zero_le _, by
      have := (y a).isLt; fin_cases a <;> simpa using this⟩⟩).trans
    (View.canon_unit_zero (S := S32x128) (by decide) inb_S32x128_S32x128_0_0 w)

/-- and on the matrices' shape. -/
theorem read_whole3 (v : View sig .tc .vmem S32x128x128 .f32) (f : v.ty.Contents (Elt F)) (w : Vec F S32x128x128 .f32) :
    v.read (Elt F) (v.writes (Elt F) f [(⟨Rect.unit (s := S32x128x128) ![0, 0, 0] S32x128x128.size inb_S32x128x128_S32x128x128_0_0_0, w⟩ : View.Piece (Elt F) S32x128x128 .f32)]) = w :=
  (View.read_writes_eq_canon v f _ fun y => ⟨_, List.mem_singleton.2 rfl, by
    rw [Rect.mem_set_unit]; exact fun a => ⟨by fin_cases a <;> exact Nat.zero_le _, by
      have := (y a).isLt; fin_cases a <;> simpa using this⟩⟩).trans
    (View.canon_unit_zero (S := S32x128x128) (by decide) inb_S32x128x128_S32x128x128_0_0_0 w)

/-- From the input block at `x`, the two result blocks and the scratch buffer at anything, the body runs to its return
    and leaves the input as it was, the results at `outX x` and `outM x`, the scratch buffer at something. -/
theorem kernelRun (c : Dev nD) (i : grid0.Coords) (arg1 : Memref sig .tc .vmem S32x128 .f32) (harg1 : arg1.IsWhole) (arg2 : Memref sig .tc .vmem S32x128 .f32) (harg2 : arg2.IsWhole) (arg3 : Memref sig .tc .vmem S32x128x128 .f32) (harg3 : arg3.IsWhole) (arg4 : Memref sig .tc .vmem S32x128x128 .f32) (harg4 : arg4.IsWhole)
    (x : Vec F S32x128 .f32) (K : PUnit → sProp 𝕄) :
    iprop(owns (c : Thread nD τ) arg1 fullShare x ∗ (∃ d, owns (c : Thread nD τ) arg2 fullShare d)
        ∗ (∃ d, owns (c : Thread nD τ) arg3 fullShare d) ∗ (∃ d, owns (c : Thread nD τ) arg4 fullShare d)
        ∗ (iprop(owns (c : Thread nD τ) arg1 fullShare x ∗ owns (c : Thread nD τ) arg2 fullShare (outX x)
              ∗ owns (c : Thread nD τ) arg3 fullShare (outM x) ∗ (∃ d, owns (c : Thread nD τ) arg4 fullShare d)) -∗ K ⟨⟩))
      ⊢ wp frame (wpE (defs₀ (F := F)) Variants.none c none) Set.univ
          (cc0__diffsort_kernel i arg1 harg1 arg2 harg2 arg3 harg3 arg4 harg4) K := by
  simp only [cc0__diffsort_kernel_eq_skeleton]; unfold cc0__diffsort_kernel_skel
  unfold owns
  iintro ⟨⟨%f1, %h1, H1⟩, ⟨%d2, %f2, -, H2⟩, ⟨%d3, %f3, -, H3⟩, ⟨%d4, %f4, -, H4⟩, Hk⟩
  have hr := whole_read harg1 f1 h1
  have h0 : arg3.view.read (Elt F) (arg3.view.writes (Elt F) arg3.view.junk [(⟨Rect.unit (s := S32x128x128) ![0, 0, 0] S32x128x128.size inb_S32x128x128_S32x128x128_0_0_0, k0_pay23⟩ : View.Piece (Elt F) S32x128x128 .f32)])
        = (passes k0_pay19 k0_pay20 k0_pay21 k0_pay22 x (2 * 0)).2
      ∧ x = (passes k0_pay19 k0_pay20 k0_pay21 k0_pay22 x (2 * 0)).1 :=
    ⟨read_whole3 arg3.view _ _, rfl⟩
  sl_exec

  obtain ⟨hf, rfl⟩ := hL1
  have hn : 2 * Scf.trips k0_t1_loop.lb k0_t1_loop.ub k0_t1_loop.st = 64 := by decide
  rw [hn] at hf ⊢
  sl_step
  iapply Hk
  isplitl [H1]
  · iexists _; isplitr; swap; · iexact H1
    ipureintro; exact h1
  isplitl [H2]
  · iexists _; isplitr; swap; · iexact H2
    ipureintro; exact read_whole2 arg2.view _ _
  isplitl [H3]
  · iexists _; isplitr; swap; · iexact H3
    ipureintro; exact hf
  iexists _, _; isplitr; swap; · iexact H4
  ipureintro; rfl

end Cert.Sort.KernelIdeal
end
-- ==== Proof.KernelIdealRun.lean ====
/- The launch of the kernel at any reading `F` of its floats: on each of the eight points of its grid the body turns the
   point's block of input rows into the block's two results (KernelIdealBody.lean `kernelRun`); from that the whole run
   ends, with the argument as it was and each result array at what the points' write-backs left. -/
module

public import proofs.«01_k».proof.Proof.KernelIdealBody
public import proofs.«01_k».proof.Proof.Gen.KernelIdeal.Frame
public import proofs.«01_k».proof.Proof.Gen.KernelIdeal.Points
public import proofs.«01_k».proof.Proof.Gen.KernelIdeal.Launch
public import Idealize.ShloMosaic.Lib.Pipeline.Frame

@[expose] public section

set_option maxRecDepth 16384

noncomputable section

namespace Cert.Sort.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The block of input rows the pipeline reads at point `t`. -/
def inRows (c : Dev nD) (t : Fin cfg0.N) : Vec F S32x128 .f32 := iblk m c 0 t

/-- What the pipeline is told of the body: it leaves the input block in place and the result blocks at `outX` and `outM`
    of it; the scratch buffer is at something before and after. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outX (inRows m c t)
    | ⟨2, _⟩ => outM (inRows m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = outX (inRows m c t) := by dsimp only [dats]
theorem after2 (c : Dev nD) (t : Fin cfg0.N) : (dats m 0 c).after 2 t = outM (inRows m c t) := by dsimp only [dats]

theorem before0 (c : Dev nD) (t : Fin cfg0.N) (d) : (dats m 0 c).before 0 t d = inRows m c t :=
  before0_0_of m (dats m 0 c) (A_eq m c 0) (after0 m c) t d

/-- What the body is entered with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at point `t` takes the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, after0, after1, after2]
  rw [show (dats m 0 c).Φ t.succ = Pipeline.ΦA spec0 c from rfl,
    show (dats m 0 c).Φ t.castSucc = Pipeline.ΦA spec0 c from rfl]
  unfold Dat.owesAt Pipeline.owesWithin Pipeline.ΦA
  rw [show (dats m 0 c).owed t.castSucc = 0 from rfl, show (dats m 0 c).owed t.succ = 0 from rfl, scopedRest0_eq]
  iintro ⟨⟨⟨%f, Hs⟩, Hg⟩, ⟨%W, %hW, HO⟩, ⟨%d0, H0⟩, ⟨%d1, H1⟩, ⟨%d2, H2⟩⟩
  iapply (kernelRun c (grid0.coords t) _ _ _ _ _ _ _ _ (inRows m c t) _)
  isplitl [H0]; · iexact H0
  isplitl [H1]; · iexists _; iexact H1
  isplitl [H2]; · iexists _; iexact H2
  isplitl [Hs]; · iexists f; rw [owns_whole]; iexact Hs
  iintro ⟨H0, H1, H2, ⟨%d, Hs⟩⟩
  isplitl [Hs Hg]
  · isplitl [Hs]; · iexists d; rw [← owns_whole]; iexact Hs
    iexact Hg
  isplitl [HO]
  · iexists W; isplitr; · ipureintro; exact fun _ _ => Or.inl trivial
    iexact HO
  isplitl [H0]; · iexact H0
  isplitl [H1]; · iexact H1
  iexact H2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The whole run: it ends, every array at what the write-backs of the eight points left, every semaphore at zero. -/
theorem run_main : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- From any launch the run ends with the argument as it was and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c =>
    ((h.1 c).1 0).trans (((dats m 0 c).arrAt_in 0 rfl _).trans ((A_eq m c 0).trans (V_main_arg0 m c))), h.2⟩) (run_main m ρ)

/-- From any launch the run ends with the two results at what the write-backs of the eight points left. -/
theorem results : θ_run defs (onTc (τ := τ) (main (F := F))) ⟨m, fun _ => 0, ρ⟩ (fun r => ∀ c : Dev nD,
      r.2.mem ((c.tc : Thread nD τ).loc main_v0_0) = (dats m 0 c).arrAt 1 cfg0.N
      ∧ r.2.mem ((c.tc : Thread nD τ).loc main_v0_1) = (dats m 0 c).arrAt 2 cfg0.N
      ∧ r.2.mem ((c.tc : Thread nD τ).loc main_arg0) = m ((c.tc : Thread nD τ).loc main_arg0)) :=
  (θ_run defs _ _).mono (fun _ h c => ⟨(h.1 c).1 1, (h.1 c).1 2,
    ((h.1 c).1 0).trans (((dats m 0 c).arrAt_in 0 rfl _).trans ((A_eq m c 0).trans (V_main_arg0 m c)))⟩) (run_main m ρ)

end Cert.Sort.KernelIdeal

end
-- ==== Proof.Frames.lean ====
/- The three programs run: the kernel as printed, its idealization, and the idealized reference each end, with the argument
   as it was and every semaphore at zero. -/
module

public import proofs.«01_k».proof.Proof.KernelRun
public import proofs.«01_k».proof.Proof.KernelIdealRun
public import proofs.«01_k».proof.Proof.Gen.ReferenceIdeal.Run
public import Idealize.ShloMosaic.Lib.Quiescent
public import Idealize.ShloMosaic.PureOps.BitExact
public import Idealize.ShloMosaic.PureOps.Ideal

@[expose] public section

noncomputable section

namespace Cert.Sort

open Idealize.ShloMosaic Idealize.SL.Sem

/-- The kernel as printed. -/
theorem frame_Kernel (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0) :=
  Kernel.frame m g

/-- Its idealization. -/
theorem frame_KernelIdeal (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0) :=
  KernelIdeal.frame m g

/-- The idealized reference, whose program has no semaphore. -/
theorem frame_ReferenceIdeal (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0) :=
  (θ_run _ _ _).mono (fun r h => ⟨fun c => (h c).2.2, sem_eq_zero_of_no_sems (by decide) r.2⟩)
    (Cert.ReferenceIdeal.Value.run (F := Ideal) m g)

end Cert.Sort

end
-- ==== Proof.Net.lean ====
/- The soft odd-even sorting network over the real numbers, on one row: values and permutation matrix after each pair of
   layers, and the identities that bring the fused form of a pair to its two layers. No program is named here. -/
module

public import Idealize.ShloMosaic.PureOps.Ideal

@[expose] public section

noncomputable section

namespace Cert.Sort

/-- The small number added under the root. -/
def eps : ℝ := 14411519 / 2 ^ 57

theorem eps_pos : 0 < eps := by unfold eps; positivity

/-- How far the pair `(a, b)` is in order: the sigmoid of ten times the difference over its fourth root. -/
def alpha (a b : ℝ) : ℝ := (1 + Real.exp (-((b - a) * 10 * (1 / √√(|b - a| + eps)))))⁻¹

theorem root_pos (a b : ℝ) : 0 < √√(|b - a| + eps) :=
  Real.sqrt_pos.2 (Real.sqrt_pos.2 (add_pos_of_nonneg_of_pos (abs_nonneg _) eps_pos))

/-- Two square roots are the fourth root. -/
theorem root_eq_rpow {y : ℝ} (h : 0 ≤ y) : √√y = Real.rpow y (1 / 4) := by
  rw [Real.sqrt_eq_rpow, Real.sqrt_eq_rpow, ← Real.rpow_mul h]; norm_num

/-- Seen from the other side, the pair is in order by what is left of one. -/
theorem one_sub_alpha (a b : ℝ) : 1 - alpha b a = alpha a b := by
  unfold alpha
  rw [abs_sub_comm a b]
  set t := (b - a) * 10 * (1 / √√(|b - a| + eps)) with ht
  have e : (a - b) * 10 * (1 / √√(|b - a| + eps)) = -t := by rw [ht]; ring
  rw [e, neg_neg, Real.exp_neg]
  have h := Real.exp_pos t
  field_simp
  ring

/-! ## One layer

A lane's partner in the layer, the weight the lane keeps of its own value, and the mix of the two. -/

/-- First layer: lanes `2k` and `2k+1`. -/
def swA (j : ℕ) : ℕ := if j % 2 = 0 then j + 1 else j - 1

/-- Second layer: lanes `2k+1` and `2k+2`; lanes `0` and `127` have no partner. -/
def swB (j : ℕ) : ℕ := if j = 0 ∨ j = 127 then j else if j % 2 = 0 then j - 1 else j + 1

def wA (x : ℕ → ℝ) (j : ℕ) : ℝ := if j % 2 = 0 then alpha (x j) (x (j + 1)) else alpha (x (j - 1)) (x j)

def wB (x : ℕ → ℝ) (j : ℕ) : ℝ :=
  if j = 0 ∨ j = 127 then 1 else if j % 2 = 0 then alpha (x (j - 1)) (x j) else alpha (x j) (x (j + 1))

def mix (sw : ℕ → ℕ) (w v : ℕ → ℝ) (j : ℕ) : ℝ := w j * v j + (1 - w j) * v (sw j)

/-- The values after the first layer. -/
def layerA (x : ℕ → ℝ) : ℕ → ℝ := mix swA (wA x) x

/-- The values after both. -/
def netX (x : ℕ → ℝ) : ℕ → ℝ := mix swB (wB (layerA x)) (layerA x)

/-- The matrix after both, row by row. -/
def netM (x : ℕ → ℝ) (M : ℕ → ℕ → ℝ) (r : ℕ) : ℕ → ℝ := mix swB (wB (layerA x)) (mix swA (wA x) (M r))

/-- Values and matrix after `n` pairs of layers, from the identity matrix. -/
def net (x : ℕ → ℝ) : ℕ → (ℕ → ℝ) × (ℕ → ℕ → ℝ)
  | 0 => (x, fun r j => if r = j then 1 else 0)
  | n + 1 => (netX (net x n).1, netM (net x n).1 (net x n).2)

/-! ## The fused form -/

/-- The lane a roll of `±1` brings the second layer's partner from. At lanes 0 and 127 it is some other lane. -/
def partB (j : ℕ) : ℕ := if j % 2 = 1 ∧ j ≤ 125 then (j + 1) % 128 else (j + 127) % 128

/-- A mix written as a step from the partner's value towards the lane's own. -/
theorem mix_eq (sw : ℕ → ℕ) (w v : ℕ → ℝ) (j : ℕ) : v (sw j) + w j * (v j - v (sw j)) = mix sw w v j := by
  unfold mix; ring

/-- In the second layer, whichever value the unused partner of lanes 0 and 127 has. -/
theorem mixB_eq (x v : ℕ → ℝ) {j : ℕ} (hj : j < 128) :
    v (partB j) + wB x j * (v j - v (partB j)) = mix swB (wB x) v j := by
  by_cases h : j = 0 ∨ j = 127
  · have hw : wB x j = 1 := if_pos h
    unfold mix; rw [hw]; ring
  · have e : partB j = swB j := by
      unfold partB swB; rw [if_neg h]
      split_ifs <;> omega
    rw [e, mix_eq]

/-- The five taps of a fused pair are the two layers. -/
theorem taps (x w1 X : ℕ → ℝ) {j : ℕ} (hj : j < 128) (w2 p : ℝ) (hw : w2 = wB x j)
    (hp : p = if j % 2 = 0 then w1 ((j + 127) % 128) else w1 ((j + 1) % 128)) :
    w2 * w1 j * X j
      + (if j % 2 = 0 then w2 * (1 - w1 j) else (1 - w2) * p) * X ((j + 1) % 128)
      + (if j % 2 = 0 then (1 - w2) * p else w2 * (1 - w1 j)) * X ((j + 127) % 128)
      + (if j % 2 = 0 then 0 else (1 - w2) * (1 - p)) * X ((j + 2) % 128)
      + (if j % 2 = 0 then (1 - w2) * (1 - p) else 0) * X ((j + 126) % 128)
      = mix swB (wB x) (mix swA w1 X) j := by
  rcases Nat.mod_two_eq_zero_or_one j with h | h
  · simp only [h, if_true] at hp ⊢
    by_cases h0 : j = 0
    · subst h0
      have : w2 = 1 := hw.trans (if_pos (Or.inl rfl))
      unfold mix; rw [← hw, this]; simp [swA]
    · have e1 : (j + 1) % 128 = j + 1 := by omega
      have e2 : (j + 127) % 128 = j - 1 := by omega
      have e3 : (j + 126) % 128 = j - 2 := by omega
      have s : swB j = j - 1 := by unfold swB; rw [if_neg (by omega), if_pos h]
      have a1 : swA j = j + 1 := if_pos h
      have a2 : swA (j - 1) = j - 2 := by unfold swA; rw [if_neg (by omega)]; omega
      unfold mix
      rw [← hw, s, a1, a2, e1, e2, e3, hp, e2]; ring
  · have h' : ¬ (1 : ℕ) = 0 := by omega
    simp only [h, h', if_false] at hp ⊢
    by_cases h0 : j = 127
    · subst h0
      have : w2 = 1 := hw.trans (if_pos (Or.inr rfl))
      unfold mix; rw [← hw, this]; simp [swA]
    · have e1 : (j + 1) % 128 = j + 1 := by omega
      have e2 : (j + 127) % 128 = j - 1 := by omega
      have e3 : (j + 2) % 128 = j + 2 := by omega
      have s : swB j = j + 1 := by unfold swB; rw [if_neg (by omega), if_neg (by omega)]
      have a1 : swA j = j - 1 := if_neg (by omega)
      have a2 : swA (j + 1) = j + 2 := by unfold swA; rw [if_pos (by omega)]
      unfold mix
      rw [← hw, s, a1, a2, e1, e2, e3, hp, e1]; ring

/-- The first layer's weight by the lane's own view of the pair. -/
theorem wA_eq (x : ℕ → ℝ) (j : ℕ) :
    (if j % 2 = 0 then alpha (x j) (x (swA j)) else 1 - alpha (x j) (x (swA j))) = wA x j := by
  unfold wA swA; split_ifs with h
  · rfl
  · exact one_sub_alpha _ _

/-- The second layer's. -/
theorem wB_eq (x : ℕ → ℝ) {j : ℕ} (hj : j < 128) :
    (if 1 ≤ j ∧ j ≤ 126 then (if j % 2 = 1 ∧ j ≤ 125 then alpha (x j) (x (partB j)) else 1 - alpha (x j) (x (partB j))) else 1) = wB x j := by
  unfold wB
  by_cases h : j = 0 ∨ j = 127
  · rw [if_pos h, if_neg (by omega)]
  · rw [if_neg h, if_pos (by omega)]
    rcases Nat.mod_two_eq_zero_or_one j with e | e
    · rw [if_neg (by omega), if_pos e, one_sub_alpha, show partB j = j - 1 by unfold partB; rw [if_neg (by omega)]; omega]
    · rw [if_pos (by omega), if_neg (by omega), show partB j = j + 1 by unfold partB; rw [if_pos (by omega)]; omega]

/-! ## The layers pair by pair

Even and odd entries of a layer's pairs side by side, as a program that takes every second entry computes them. -/

/-- First layer: pair `k` is entries `2k` and `2k+1`. -/
theorem pairsA (x v : ℕ → ℝ) (j : ℕ) :
    (if j % 2 = 0
      then alpha (x (0 + 2 * (j / 2))) (x (1 + 2 * (j / 2))) * v (0 + 2 * (j / 2))
        + (1 - alpha (x (0 + 2 * (j / 2))) (x (1 + 2 * (j / 2)))) * v (1 + 2 * (j / 2))
      else (1 - alpha (x (0 + 2 * (j / 2))) (x (1 + 2 * (j / 2)))) * v (0 + 2 * (j / 2))
        + alpha (x (0 + 2 * (j / 2))) (x (1 + 2 * (j / 2))) * v (1 + 2 * (j / 2))) = mix swA (wA x) v j := by
  unfold mix swA wA
  split_ifs with h
  · rw [show 0 + 2 * (j / 2) = j by omega, show 1 + 2 * (j / 2) = j + 1 by omega]
  · rw [show 0 + 2 * (j / 2) = j - 1 by omega, show 1 + 2 * (j / 2) = j by omega]; ring

/-- Second layer: pair `k` is entries `2k+1` and `2k+2`, and the two ends stay. -/
theorem pairsB (x v : ℕ → ℝ) {j : ℕ} (hj : j < 128) :
    (if j < 1 then v (0 + j) else if j < 127 then
      (if (j - 1) % 2 = 0
        then alpha (x (1 + (0 + 2 * ((j - 1) / 2)))) (x (1 + (1 + 2 * ((j - 1) / 2)))) * v (1 + (0 + 2 * ((j - 1) / 2)))
          + (1 - alpha (x (1 + (0 + 2 * ((j - 1) / 2)))) (x (1 + (1 + 2 * ((j - 1) / 2))))) * v (1 + (1 + 2 * ((j - 1) / 2)))
        else (1 - alpha (x (1 + (0 + 2 * ((j - 1) / 2)))) (x (1 + (1 + 2 * ((j - 1) / 2))))) * v (1 + (0 + 2 * ((j - 1) / 2)))
          + alpha (x (1 + (0 + 2 * ((j - 1) / 2)))) (x (1 + (1 + 2 * ((j - 1) / 2)))) * v (1 + (1 + 2 * ((j - 1) / 2))))
      else v (127 + (j - 127))) = mix swB (wB x) v j := by
  unfold mix swB wB
  by_cases h0 : j = 0 ∨ j = 127
  · simp only [if_pos h0]
    rcases h0 with rfl | rfl <;> simp
  · simp only [if_neg h0]
    rw [if_neg (by omega), if_pos (by omega)]
    rcases Nat.mod_two_eq_zero_or_one j with h | h
    · rw [if_neg (by omega), if_pos h, if_pos h, show 1 + (0 + 2 * ((j - 1) / 2)) = j - 1 by omega,
        show 1 + (1 + 2 * ((j - 1) / 2)) = j by omega]; ring
    · rw [if_pos (by omega), if_neg (by omega), if_neg (by omega), show 1 + (0 + 2 * ((j - 1) / 2)) = j by omega,
        show 1 + (1 + 2 * ((j - 1) / 2)) = j + 1 by omega]

end Cert.Sort

end
-- ==== Proof.Reals.lean ====
/- Vectors of extended reals that hold real numbers everywhere, and what each operation of the two programs does to such a
   vector: the reals it holds afterwards as a function of the index's coordinates. No program is named here. -/
module

public import proofs.«01_k».proof.Proof.Net
public import Idealize.ShloMosaic.PureOps.Ideal
public import Idealize.ShloMosaic.Lib.ValueIdx
public import Idealize.ShloMosaic.Lib.Pipeline.Value
public import Idealize.ShloMosaic.Lib.KernelVsHost
public import Idealize.ShloMosaic.Lib.Pointwise

@[expose] public section

noncomputable section

namespace Cert.Sort

open Idealize.ShloMosaic Idealize.ShloMosaic.ValueIdx

/-- A matrix of reals given by two coordinates; -/
def Is2 {m n : ℕ} (v : FVec Ideal ⟨2, ![m, n]⟩ .f32) (x : ℕ → ℕ → ℝ) : Prop :=
  ∀ y : (⟨2, ![m, n]⟩ : Shape).Idx, v y = ((x (y 0).val (y 1).val : ℝ) : EReal)

/-- a stack of matrices of reals given by three. -/
def Is3 {m k n : ℕ} (v : FVec Ideal ⟨3, ![m, k, n]⟩ .f32) (x : ℕ → ℕ → ℕ → ℝ) : Prop :=
  ∀ y : (⟨3, ![m, k, n]⟩ : Shape).Idx, v y = ((x (y 0).val (y 1).val (y 2).val : ℝ) : EReal)

/-- A row of lane bits given by a predicate of the lane. -/
def IsMask {n : ℕ} (c : IVec ⟨2, ![1, n]⟩ 1) (p : ℕ → Prop) [DecidablePred p] : Prop :=
  ∀ y : (⟨2, ![1, n]⟩ : Shape).Idx, c y = if p (y 1).val then 1#1 else 0#1

section Ops2
variable {m n : ℕ} {v w : FVec Ideal ⟨2, ![m, n]⟩ .f32} {x z : ℕ → ℕ → ℝ}

theorem Is2.congr (h : Is2 v x) (e : ∀ i j, i < m → j < n → x i j = z i j) : Is2 v z := fun y =>
  (h y).trans (congrArg _ (e _ _ (y 0).isLt (y 1).isLt))

theorem Is2.add (h : Is2 v x) (k : Is2 w z) : Is2 (addf v w) fun i j => x i j + z i j := fun y => by
  rw [addf_apply, h y, k y, EReal.coe_add]
theorem Is2.sub (h : Is2 v x) (k : Is2 w z) : Is2 (subf v w) fun i j => x i j - z i j := fun y => by
  rw [subf_apply, h y, k y, EReal.coe_sub]
theorem Is2.mul (h : Is2 v x) (k : Is2 w z) : Is2 (mulf v w) fun i j => x i j * z i j := fun y => by
  rw [mulf_apply, h y, k y, EReal.coe_mul]

end Ops2

section Ops3
variable {m k n : ℕ} {v w : FVec Ideal ⟨3, ![m, k, n]⟩ .f32} {x z : ℕ → ℕ → ℕ → ℝ}

theorem Is3.congr (h : Is3 v x) (e : ∀ i r j, i < m → r < k → j < n → x i r j = z i r j) : Is3 v z := fun y =>
  (h y).trans (congrArg _ (e _ _ _ (y 0).isLt (y 1).isLt (y 2).isLt))

theorem Is3.add (h : Is3 v x) (k : Is3 w z) : Is3 (addf v w) fun i r j => x i r j + z i r j := fun y => by
  rw [addf_apply, h y, k y, EReal.coe_add]
theorem Is3.sub (h : Is3 v x) (k : Is3 w z) : Is3 (subf v w) fun i r j => x i r j - z i r j := fun y => by
  rw [subf_apply, h y, k y, EReal.coe_sub]
theorem Is3.mul (h : Is3 v x) (k : Is3 w z) : Is3 (mulf v w) fun i r j => x i r j * z i r j := fun y => by
  rw [mulf_apply, h y, k y, EReal.coe_mul]

end Ops3

/-! ## The programs' numbers -/

theorem bits_one : Ideal.ofBits .f32 0x3F800000#32 = ((1 : ℝ) : EReal) := by
  simp [Ideal.ofBits, Ideal.ieee, -EReal.coe_mul]; try norm_num
theorem bits_zero : Ideal.ofBits .f32 0x00000000#32 = ((0 : ℝ) : EReal) := by
  simp [Ideal.ofBits, Ideal.ieee, -EReal.coe_mul]; try norm_num
theorem bits_ten : Ideal.ofBits .f32 0x41200000#32 = ((10 : ℝ) : EReal) := by
  simp [Ideal.ofBits, Ideal.ieee, -EReal.coe_mul]; try norm_num
theorem bits_quarter : Ideal.ofBits .f32 0x3E800000#32 = ((1 / 4 : ℝ) : EReal) := by
  simp [Ideal.ofBits, Ideal.ieee, -EReal.coe_mul]; try norm_num
theorem bits_eps : Ideal.ofBits .f32 0x2EDBE6FF#32 = ((eps : ℝ) : EReal) := by
  unfold eps
  simp [Ideal.ofBits, Ideal.ieee, -EReal.coe_mul]; try norm_num

/-- A number everywhere. -/
theorem is2_const {m n : ℕ} {b : BitVec 32} {r : ℝ} (h : Ideal.ofBits .f32 b = ((r : ℝ) : EReal)) :
    Is2 (m := m) (n := n) (broadcast ⟨2, ![m, n]⟩ (Scalar.ofBits (F := Ideal) .f32 b)) fun _ _ => r := fun y => h

theorem absf_coe (r : ℝ) : (FloatOps.absf (F := Ideal) (φ := .f32) ((r : ℝ) : EReal)) = ((|r| : ℝ) : EReal) := by
  show max ((r : ℝ) : EReal) (-((r : ℝ) : EReal)) = _
  rw [← EReal.coe_neg]
  exact (EReal.coe_strictMono.monotone.map_max).symm

theorem sqrt_coe {r : ℝ} (h : 0 ≤ r) : Ideal.sqrt ((r : ℝ) : EReal) = ((√r : ℝ) : EReal) := by
  rw [Ideal.sqrt_coe, if_neg (not_lt.2 h)]

/-- The kernel's sigmoid of the scaled difference, entry by entry. -/
theorem logistic_coe (a b : ℝ) :
    Ideal.logistic (Ideal.div ((((b : ℝ) : EReal) - ((a : ℝ) : EReal)) * ((10 : ℝ) : EReal))
      (Ideal.sqrt (Ideal.sqrt ((FloatOps.absf (F := Ideal) (φ := .f32) (((b : ℝ) : EReal) - ((a : ℝ) : EReal)) : EReal)
        + ((eps : ℝ) : EReal))))) = ((alpha a b : ℝ) : EReal) := by
  have hp : 0 ≤ |b - a| + eps := add_nonneg (abs_nonneg _) eps_pos.le
  rw [← EReal.coe_sub, absf_coe, ← EReal.coe_add, sqrt_coe hp, sqrt_coe (Real.sqrt_nonneg _), ← EReal.coe_mul,
    Ideal.div_coe (root_pos a b).ne', ← EReal.coe_mul, Ideal.logistic_coe]
  rfl

/-- The reference's, written out with a quotient and a power. -/
theorem quotient_coe (a b : ℝ) :
    Ideal.div ((1 : ℝ) : EReal) (((1 : ℝ) : EReal) + Ideal.exp (-(Ideal.div ((((b : ℝ) : EReal) - ((a : ℝ) : EReal)) * ((10 : ℝ) : EReal))
      (Ideal.pow ((FloatOps.absf (F := Ideal) (φ := .f32) (((a : ℝ) : EReal) - ((b : ℝ) : EReal)) : EReal)
        + ((eps : ℝ) : EReal)) ((1 / 4 : ℝ) : EReal))))) = ((alpha a b : ℝ) : EReal) := by
  have hp : 0 ≤ |b - a| + eps := add_nonneg (abs_nonneg _) eps_pos.le
  rw [← EReal.coe_sub, ← EReal.coe_sub, absf_coe, abs_sub_comm a b, ← EReal.coe_add, Ideal.pow_coe_coe, ← root_eq_rpow hp,
    ← EReal.coe_mul, Ideal.div_coe (root_pos a b).ne', ← EReal.coe_mul, ← EReal.coe_neg, Ideal.exp_coe, ← EReal.coe_add,
    Ideal.div_coe (by positivity), ← EReal.coe_mul, one_mul, one_div]
  rfl

/-- The kernel's sigmoid of two matrices. -/
theorem Is2.logistic {m n : ℕ} {v w : FVec Ideal ⟨2, ![m, n]⟩ .f32} {x z : ℕ → ℕ → ℝ} (h : Is2 v x) (k : Is2 w z) :
    Is2 (Idealize.ShloMosaic.logistic (divf (mulf (subf w v) (broadcast ⟨2, ![m, n]⟩ (Scalar.ofBits (F := Ideal) .f32 0x41200000#32)))
      (sqrt (sqrt (addf (absf (subf w v)) (broadcast ⟨2, ![m, n]⟩ (Scalar.ofBits (F := Ideal) .f32 0x2EDBE6FF#32)))))))
      fun i j => alpha (x i j) (z i j) := fun y => by
  rw [← logistic_coe, ← bits_ten, ← bits_eps, ← h y, ← k y]
  rfl

/-! ## Lane masks -/

theorem IsMask.select {m n : ℕ} {c : IVec ⟨2, ![1, n]⟩ 1} {p : ℕ → Prop} [DecidablePred p] (hc : IsMask c p)
    {v w : FVec Ideal ⟨2, ![m, n]⟩ .f32} {x z : ℕ → ℕ → ℝ} (h : Is2 v x) (k : Is2 w z) (hn : n ≠ 1)
    (h1 : (⟨2, ![1, n]⟩ : Shape).ShapeCasts ⟨2, ![1, n]⟩) (h2 : (⟨2, ![1, n]⟩ : Shape).Broadcasts ⟨2, ![m, n]⟩) :
    Is2 (select (broadcastTo ⟨2, ![m, n]⟩ (shapeCast ⟨2, ![1, n]⟩ c h1) h2) v w)
      fun i j => if p j then x i j else z i j := fun y => by
  rw [shapeCast_self]
  show (if broadcastTo ⟨2, ![m, n]⟩ c h2 y = 1#1 then v y else w y) = _
  rw [broadcastTo_apply c h2 y (fun a => match a with | ⟨0, _⟩ => ⟨0, Nat.one_pos⟩ | ⟨1, _⟩ => ⟨(y 1).val, (y 1).isLt⟩)
    (fun a => match a with
      | ⟨0, _⟩ => rfl
      | ⟨1, _⟩ => (if_neg hn).symm)]
  rw [hc, h y, k y]
  show (if (if p (y 1).val then 1#1 else 0#1) = 1#1 then _ else _) = _
  by_cases hp : p (y 1).val <;> simp [hp]

/-- Two lane numbers compared as words. -/
theorem eq_bit {a b : ℕ} (ha : a < 128) (hb : b < 128) :
    IntOp.cmpi .eq (BitVec.ofNat 32 a) (BitVec.ofNat 32 b) = if a = b then 1#1 else 0#1 := by
  unfold IntOp.cmpi
  by_cases h : a = b
  · subst h; simp
  · have : BitVec.ofNat 32 a ≠ BitVec.ofNat 32 b := fun e => h (by
      have := congrArg BitVec.toNat e
      rw [BitVec.toNat_ofNat, BitVec.toNat_ofNat] at this
      omega)
    rw [if_neg h]
    show BitVec.ofBool (BitVec.ofNat 32 a == BitVec.ofNat 32 b) = 0#1
    rw [beq_eq_false_iff_ne.2 this]; rfl

/-! ## Rolls by one lane, as two slices put together the other way round -/

section Rolls
variable {m : ℕ} {v : FVec Ideal ⟨2, ![m, 128]⟩ .f32} {x : ℕ → ℕ → ℝ}

/-- Every lane takes its right neighbour's value, the last the first's. -/
theorem Is2.rollL (h : Is2 v x) (h1 : (⟨2, ![m, 128]⟩ : Shape).Slices ![0, 1] ⟨2, ![m, 127]⟩)
    (h2 : (⟨2, ![m, 128]⟩ : Shape).Slices ![0, 0] ⟨2, ![m, 1]⟩)
    (h3 : Shape.Concatenates [⟨2, ![m, 127]⟩, ⟨2, ![m, 1]⟩] ⟨2, ![m, 128]⟩ 1) :
    Is2 (m := m) (n := 128) (concatenate ⟨2, ![m, 128]⟩ 1 [⟨⟨2, ![m, 127]⟩, extractStridedSlice ⟨2, ![m, 127]⟩ ![0, 1] v h1⟩,
      ⟨⟨2, ![m, 1]⟩, extractStridedSlice ⟨2, ![m, 1]⟩ ![0, 0] v h2⟩] h3) fun i j => x i ((j + 1) % 128) := fun y => by
  have hy : (y 1).val < 128 := (y 1).isLt
  by_cases hj : (y 1).val < 127
  · rw [concatenate_pair_apply_left 1 _ _ h3 y rfl (fun a => match a with | ⟨0, _⟩ => ⟨(y 0).val, (y 0).isLt⟩ | ⟨1, _⟩ => ⟨(y 1).val, hj⟩)
      (fun a => match a with | ⟨0, _⟩ => rfl | ⟨1, _⟩ => rfl)]
    rw [extractStridedSlice_apply _ v h1 _ (fun a => match a with | ⟨0, _⟩ => ⟨(y 0).val, (y 0).isLt⟩ | ⟨1, _⟩ => ⟨(y 1).val + 1, by show _ < 128; omega⟩)
      (fun a => match a with | ⟨0, _⟩ => (Nat.zero_add _).symm | ⟨1, _⟩ => Nat.add_comm _ _)]
    rw [h]
    show ((x (y 0).val ((y 1).val + 1) : ℝ) : EReal) = _
    exact congrArg (fun k => ((x (y 0).val k : ℝ) : EReal)) (by omega)
  · rw [concatenate_pair_apply_right 1 _ _ h3 y rfl rfl (fun a => match a with | ⟨0, _⟩ => ⟨(y 0).val, (y 0).isLt⟩ | ⟨1, _⟩ => ⟨0, Nat.one_pos⟩)
      (fun a ha => match a with | ⟨0, _⟩ => rfl | ⟨1, _⟩ => absurd rfl ha) (by show 0 + 127 = (y 1).val; omega)]
    rw [extractStridedSlice_apply _ v h2 _ (fun a => match a with | ⟨0, _⟩ => ⟨(y 0).val, (y 0).isLt⟩ | ⟨1, _⟩ => ⟨0, by show _ < 128; omega⟩)
      (fun a => match a with | ⟨0, _⟩ => (Nat.zero_add _).symm | ⟨1, _⟩ => rfl)]
    rw [h]
    show ((x (y 0).val 0 : ℝ) : EReal) = _
    exact congrArg (fun k => ((x (y 0).val k : ℝ) : EReal)) (by omega)

/-- Every lane takes its left neighbour's value, the first the last's. -/
theorem Is2.rollR (h : Is2 v x) (h1 : (⟨2, ![m, 128]⟩ : Shape).Slices ![0, 127] ⟨2, ![m, 1]⟩)
    (h2 : (⟨2, ![m, 128]⟩ : Shape).Slices ![0, 0] ⟨2, ![m, 127]⟩)
    (h3 : Shape.Concatenates [⟨2, ![m, 1]⟩, ⟨2, ![m, 127]⟩] ⟨2, ![m, 128]⟩ 1) :
    Is2 (m := m) (n := 128) (concatenate ⟨2, ![m, 128]⟩ 1 [⟨⟨2, ![m, 1]⟩, extractStridedSlice ⟨2, ![m, 1]⟩ ![0, 127] v h1⟩,
      ⟨⟨2, ![m, 127]⟩, extractStridedSlice ⟨2, ![m, 127]⟩ ![0, 0] v h2⟩] h3) fun i j => x i ((j + 127) % 128) := fun y => by
  have hy : (y 1).val < 128 := (y 1).isLt
  by_cases hj : (y 1).val = 0
  · rw [concatenate_pair_apply_left 1 _ _ h3 y rfl (fun a => match a with | ⟨0, _⟩ => ⟨(y 0).val, (y 0).isLt⟩ | ⟨1, _⟩ => ⟨0, Nat.one_pos⟩)
      (fun a => match a with | ⟨0, _⟩ => rfl | ⟨1, _⟩ => hj.symm)]
    rw [extractStridedSlice_apply _ v h1 _ (fun a => match a with | ⟨0, _⟩ => ⟨(y 0).val, (y 0).isLt⟩ | ⟨1, _⟩ => ⟨127, by show _ < 128; omega⟩)
      (fun a => match a with | ⟨0, _⟩ => (Nat.zero_add _).symm | ⟨1, _⟩ => rfl)]
    rw [h]
    show ((x (y 0).val 127 : ℝ) : EReal) = _
    exact congrArg (fun k => ((x (y 0).val k : ℝ) : EReal)) (by omega)
  · rw [concatenate_pair_apply_right 1 _ _ h3 y rfl rfl (fun a => match a with | ⟨0, _⟩ => ⟨(y 0).val, (y 0).isLt⟩ | ⟨1, _⟩ => ⟨(y 1).val - 1, by show _ < 127; omega⟩)
      (fun a ha => match a with | ⟨0, _⟩ => rfl | ⟨1, _⟩ => absurd rfl ha) (by show (y 1).val - 1 + 1 = (y 1).val; omega)]
    rw [extractStridedSlice_apply _ v h2 _ (fun a => match a with | ⟨0, _⟩ => ⟨(y 0).val, (y 0).isLt⟩ | ⟨1, _⟩ => ⟨(y 1).val - 1, by show _ < 128; omega⟩)
      (fun a => match a with | ⟨0, _⟩ => (Nat.zero_add _).symm | ⟨1, _⟩ => (Nat.zero_add _).symm)]
    rw [h]
    show ((x (y 0).val ((y 1).val - 1) : ℝ) : EReal) = _
    exact congrArg (fun k => ((x (y 0).val k : ℝ) : EReal)) (by omega)

end Rolls

/-! ## Rows of a stack -/

/-- A matrix spread over the rows of a stack. -/
theorem Is2.spread {m k n : ℕ} {v : FVec Ideal ⟨2, ![m, n]⟩ .f32} {x : ℕ → ℕ → ℝ} (h : Is2 v x) (hm : m ≠ 1) (hn : n ≠ 1)
    (h1 : (⟨2, ![m, n]⟩ : Shape).ShapeCasts ⟨3, ![m, 1, n]⟩) (h2 : (⟨3, ![m, 1, n]⟩ : Shape).Broadcasts ⟨3, ![m, k, n]⟩) :
    Is3 (m := m) (k := k) (n := n) (broadcastTo ⟨3, ![m, k, n]⟩ (shapeCast ⟨3, ![m, 1, n]⟩ v h1) h2) fun i _ j => x i j := fun y => by
  rw [broadcastTo_apply _ h2 y (fun a => match a with | ⟨0, _⟩ => ⟨(y 0).val, (y 0).isLt⟩ | ⟨1, _⟩ => ⟨0, Nat.one_pos⟩ | ⟨2, _⟩ => ⟨(y 2).val, (y 2).isLt⟩)
    (fun a => match a with
      | ⟨0, _⟩ => (if_neg hm).symm
      | ⟨1, _⟩ => rfl
      | ⟨2, _⟩ => (if_neg hn).symm)]
  rw [shapeCast_apply v h1 _ (fun a => match a with | ⟨0, _⟩ => ⟨(y 0).val, (y 0).isLt⟩ | ⟨1, _⟩ => ⟨(y 2).val, (y 2).isLt⟩)]
  · exact h _
  · rw [Shape.rowMajor_val_two, Shape.rowMajor_val_three]
    show (y 0).val * n + (y 2).val = ((y 0).val * 1 + 0) * n + (y 2).val
    ring

/-- A stack rotated along its lanes. -/
theorem Is3.rotate {m k : ℕ} {v : FVec Ideal ⟨3, ![m, k, 128]⟩ .f32} {x : ℕ → ℕ → ℕ → ℝ} (h : Is3 v x) (sb : BitVec 32) (d : ℕ)
    (hd : sb.toNat % 128 + d = 128) (h1 : (⟨3, ![m, k, 128]⟩ : Shape).Rotates 2 none) :
    Is3 (m := m) (k := k) (n := 128) (dynamicRotate (2 : Fin 3) sb none v h1) fun i r j => x i r ((j + d) % 128) := fun y => by
  have hy : (y 2).val < 128 := (y 2).isLt
  rw [dynamicRotate_apply (s := ⟨3, ![m, k, 128]⟩) 2 sb v h1 y
    (fun a => match a with | ⟨0, _⟩ => ⟨(y 0).val, (y 0).isLt⟩ | ⟨1, _⟩ => ⟨(y 1).val, (y 1).isLt⟩ | ⟨2, _⟩ => ⟨((y 2).val + d) % 128, Nat.mod_lt _ (by decide)⟩)
    (fun a => match a with
      | ⟨0, _⟩ => rfl
      | ⟨1, _⟩ => rfl
      | ⟨2, _⟩ => by
        show ((y 2).val + d) % 128 = ((y 2).val + 128 - sb.toNat % 128) % 128
        congr 1; omega)]
  exact h _

/-! ## The reference's operations -/

/-- A number everywhere, on the host. -/
theorem is2_hostConst {m n : ℕ} {b : BitVec 32} {r : ℝ} (h : Ideal.ofBits .f32 b = ((r : ℝ) : EReal))
    (hb : (⟨0, ![]⟩ : Shape).BroadcastsInDim ⟨2, ![m, n]⟩ (![] : Fin 0 → Fin 2)) :
    Is2 (m := m) (n := n) (broadcastInDim ⟨2, ![m, n]⟩ ![] hb (constant (F := Ideal) ⟨0, ![]⟩ .f32 b)) fun _ _ => r := fun y => h
theorem is3_hostConst {m k n : ℕ} {b : BitVec 32} {r : ℝ} (h : Ideal.ofBits .f32 b = ((r : ℝ) : EReal))
    (hb : (⟨0, ![]⟩ : Shape).BroadcastsInDim ⟨3, ![m, k, n]⟩ (![] : Fin 0 → Fin 3)) :
    Is3 (m := m) (k := k) (n := n) (broadcastInDim ⟨3, ![m, k, n]⟩ ![] hb (constant (F := Ideal) ⟨0, ![]⟩ .f32 b)) fun _ _ _ => r := fun y => h

/-- The reference's sigmoid of two matrices. -/
theorem Is2.quotient {m n : ℕ} {v w : FVec Ideal ⟨2, ![m, n]⟩ .f32} {x z : ℕ → ℕ → ℝ} (h : Is2 v x) (k : Is2 w z)
    (hb : (⟨0, ![]⟩ : Shape).BroadcastsInDim ⟨2, ![m, n]⟩ (![] : Fin 0 → Fin 2)) :
    Is2 (Host.divf (broadcastInDim ⟨2, ![m, n]⟩ ![] hb (constant (F := Ideal) ⟨0, ![]⟩ .f32 0x3F800000#32))
      (addf (broadcastInDim ⟨2, ![m, n]⟩ ![] hb (constant (F := Ideal) ⟨0, ![]⟩ .f32 0x3F800000#32))
        (Host.exp (Host.negf (Host.divf (mulf (subf w v) (broadcastInDim ⟨2, ![m, n]⟩ ![] hb (constant (F := Ideal) ⟨0, ![]⟩ .f32 0x41200000#32)))
          (Host.powf (addf (Host.absf (subf v w)) (broadcastInDim ⟨2, ![m, n]⟩ ![] hb (constant (F := Ideal) ⟨0, ![]⟩ .f32 0x2EDBE6FF#32)))
            (broadcastInDim ⟨2, ![m, n]⟩ ![] hb (constant (F := Ideal) ⟨0, ![]⟩ .f32 0x3E800000#32))))))))
      fun i j => alpha (x i j) (z i j) := fun y => by
  rw [← quotient_coe, ← bits_ten, ← bits_eps, ← bits_one, ← bits_quarter, ← h y, ← k y]
  rfl

/-- Every second column from column `o` on. -/
theorem Is2.second {m n l : ℕ} {v : FVec Ideal ⟨2, ![m, n]⟩ .f32} {x : ℕ → ℕ → ℝ} (h : Is2 v x) (o : ℕ)
    (hs : (⟨2, ![m, n]⟩ : Shape).SlicesBy ![0, o] ![1, 2] ⟨2, ![m, l]⟩) :
    Is2 (m := m) (n := l) (Host.slice ⟨2, ![m, l]⟩ ![0, o] ![1, 2] v hs) fun i j => x i (o + 2 * j) := fun y => by
  rw [Host.slice_apply, h]
  show ((x (0 + 1 * (y 0).val) (o + 2 * (y 1).val) : ℝ) : EReal) = _
  rw [Nat.zero_add, Nat.one_mul]

theorem Is3.second {m k n l : ℕ} {v : FVec Ideal ⟨3, ![m, k, n]⟩ .f32} {x : ℕ → ℕ → ℕ → ℝ} (h : Is3 v x) (o : ℕ)
    (hs : (⟨3, ![m, k, n]⟩ : Shape).SlicesBy ![0, 0, o] ![1, 1, 2] ⟨3, ![m, k, l]⟩) :
    Is3 (m := m) (k := k) (n := l) (Host.slice ⟨3, ![m, k, l]⟩ ![0, 0, o] ![1, 1, 2] v hs) fun i r j => x i r (o + 2 * j) := fun y => by
  rw [Host.slice_apply, h]
  show ((x (0 + 1 * (y 0).val) (0 + 1 * (y 1).val) (o + 2 * (y 2).val) : ℝ) : EReal) = _
  rw [Nat.zero_add, Nat.zero_add, Nat.one_mul, Nat.one_mul]

/-- The columns from column `o` on. -/
theorem Is2.from {m n l : ℕ} {v : FVec Ideal ⟨2, ![m, n]⟩ .f32} {x : ℕ → ℕ → ℝ} (h : Is2 v x) (o : ℕ)
    (hs : (⟨2, ![m, n]⟩ : Shape).Slices ![0, o] ⟨2, ![m, l]⟩) (hl : o + l ≤ n) :
    Is2 (m := m) (n := l) (extractStridedSlice ⟨2, ![m, l]⟩ ![0, o] v hs) fun i j => x i (o + j) := fun y => by
  have hy : (y 1).val < l := (y 1).isLt
  rw [extractStridedSlice_apply _ v hs y (fun a => match a with | ⟨0, _⟩ => ⟨(y 0).val, (y 0).isLt⟩ | ⟨1, _⟩ => ⟨o + (y 1).val, by show _ < n; omega⟩)
    (fun a => match a with | ⟨0, _⟩ => (Nat.zero_add _).symm | ⟨1, _⟩ => rfl)]
  exact h _

theorem Is3.from {m k n l : ℕ} {v : FVec Ideal ⟨3, ![m, k, n]⟩ .f32} {x : ℕ → ℕ → ℕ → ℝ} (h : Is3 v x) (o : ℕ)
    (hs : (⟨3, ![m, k, n]⟩ : Shape).Slices ![0, 0, o] ⟨3, ![m, k, l]⟩) (hl : o + l ≤ n) :
    Is3 (m := m) (k := k) (n := l) (extractStridedSlice ⟨3, ![m, k, l]⟩ ![0, 0, o] v hs) fun i r j => x i r (o + j) := fun y => by
  have hy : (y 2).val < l := (y 2).isLt
  rw [extractStridedSlice_apply _ v hs y (fun a => match a with
      | ⟨0, _⟩ => ⟨(y 0).val, (y 0).isLt⟩ | ⟨1, _⟩ => ⟨(y 1).val, (y 1).isLt⟩ | ⟨2, _⟩ => ⟨o + (y 2).val, by show _ < n; omega⟩)
    (fun a => match a with | ⟨0, _⟩ => (Nat.zero_add _).symm | ⟨1, _⟩ => (Nat.zero_add _).symm | ⟨2, _⟩ => rfl)]
  exact h _

/-- A matrix as a stack of one row each, -/
theorem Is2.oneRow {m n : ℕ} {v : FVec Ideal ⟨2, ![m, n]⟩ .f32} {x : ℕ → ℕ → ℝ} (h : Is2 v x) (hm : m ≠ 1) (hn : n ≠ 1)
    (hb : (⟨2, ![m, n]⟩ : Shape).BroadcastsInDim ⟨3, ![m, 1, n]⟩ (![0, 2] : Fin 2 → Fin 3)) :
    Is3 (m := m) (k := 1) (n := n) (broadcastInDim ⟨3, ![m, 1, n]⟩ ![0, 2] hb v) fun i _ j => x i j := fun y => by
  rw [broadcastInDim_apply _ hb v y (fun a => match a with | ⟨0, _⟩ => ⟨(y 0).val, (y 0).isLt⟩ | ⟨1, _⟩ => ⟨(y 2).val, (y 2).isLt⟩)
    (fun a => match a with | ⟨0, _⟩ => (if_neg hm).symm | ⟨1, _⟩ => (if_neg hn).symm)]
  exact h _

/-- and such a stack with its row repeated. -/
theorem Is3.repeatRow {m k n : ℕ} {v : FVec Ideal ⟨3, ![m, 1, n]⟩ .f32} {x : ℕ → ℕ → ℝ} (h : Is3 v fun i _ j => x i j) (hm : m ≠ 1) (hn : n ≠ 1)
    (hb : (⟨3, ![m, 1, n]⟩ : Shape).BroadcastsInDim ⟨3, ![m, k, n]⟩ (![0, 1, 2] : Fin 3 → Fin 3)) :
    Is3 (m := m) (k := k) (n := n) (broadcastInDim ⟨3, ![m, k, n]⟩ ![0, 1, 2] hb v) fun i _ j => x i j := fun y => by
  rw [broadcastInDim_apply _ hb v y
    (fun a => match a with | ⟨0, _⟩ => ⟨(y 0).val, (y 0).isLt⟩ | ⟨1, _⟩ => ⟨0, Nat.one_pos⟩ | ⟨2, _⟩ => ⟨(y 2).val, (y 2).isLt⟩)
    (fun a => match a with | ⟨0, _⟩ => (if_neg hm).symm | ⟨1, _⟩ => rfl | ⟨2, _⟩ => (if_neg hn).symm)]
  exact h _

/-- Counting in pairs. -/
theorem in_turn (a n j : ℕ) {N : ℕ} (hN : N = n * 2) : (a * n + j / 2) * 2 + j % 2 = a * N + j := by
  rw [hN, Nat.add_mul, Nat.mul_assoc]; omega

/-- Two matrices' columns in turn. -/
theorem Is2.interleave {m n N : ℕ} {v w : FVec Ideal ⟨2, ![m, n]⟩ .f32} {x z : ℕ → ℕ → ℝ} (h : Is2 v x) (k : Is2 w z)
    (hm : m ≠ 1) (hn : n ≠ 1) (hN : N = n * 2) (hb : (⟨2, ![m, n]⟩ : Shape).BroadcastsInDim ⟨3, ![m, n, 1]⟩ (![0, 1] : Fin 2 → Fin 3))
    (hc : Shape.Concatenates [⟨3, ![m, n, 1]⟩, ⟨3, ![m, n, 1]⟩] ⟨3, ![m, n, 2]⟩ 2) (hs : (⟨3, ![m, n, 2]⟩ : Shape).ShapeCasts ⟨2, ![m, N]⟩) :
    Is2 (m := m) (n := N) (shapeCast ⟨2, ![m, N]⟩ (concatenate ⟨3, ![m, n, 2]⟩ 2
      [⟨⟨3, ![m, n, 1]⟩, broadcastInDim ⟨3, ![m, n, 1]⟩ ![0, 1] hb v⟩, ⟨⟨3, ![m, n, 1]⟩, broadcastInDim ⟨3, ![m, n, 1]⟩ ![0, 1] hb w⟩] hc) hs)
      fun i j => if j % 2 = 0 then x i (j / 2) else z i (j / 2) := fun y => by
  have hy : (y 1).val < N := (y 1).isLt
  have hb' : ∀ (v : FVec Ideal ⟨2, ![m, n]⟩ .f32) (q : (⟨3, ![m, n, 1]⟩ : Shape).Idx), broadcastInDim ⟨3, ![m, n, 1]⟩ ![0, 1] hb v q
      = v (fun a => match a with | ⟨0, _⟩ => ⟨(q 0).val, (q 0).isLt⟩ | ⟨1, _⟩ => ⟨(q 1).val, (q 1).isLt⟩) := fun v q =>
    broadcastInDim_apply _ hb v q _ (fun a => match a with | ⟨0, _⟩ => (if_neg hm).symm | ⟨1, _⟩ => (if_neg hn).symm)
  have hq : (y 1).val / 2 < n := by omega
  rw [shapeCast_apply _ hs y (fun a => match a with
      | ⟨0, _⟩ => ⟨(y 0).val, (y 0).isLt⟩ | ⟨1, _⟩ => ⟨(y 1).val / 2, hq⟩ | ⟨2, _⟩ => ⟨(y 1).val % 2, Nat.mod_lt _ (by decide)⟩)]
  · by_cases e : (y 1).val % 2 = 0
    · rw [concatenate_pair_apply_left 2 _ _ hc _ rfl (fun a => match a with
          | ⟨0, _⟩ => ⟨(y 0).val, (y 0).isLt⟩ | ⟨1, _⟩ => ⟨(y 1).val / 2, hq⟩ | ⟨2, _⟩ => ⟨0, Nat.one_pos⟩)
        (fun a => match a with | ⟨0, _⟩ => rfl | ⟨1, _⟩ => rfl | ⟨2, _⟩ => e.symm), hb', h]
      exact congrArg _ (if_pos e).symm
    · rw [concatenate_pair_apply_right 2 _ _ hc _ rfl rfl (fun a => match a with
          | ⟨0, _⟩ => ⟨(y 0).val, (y 0).isLt⟩ | ⟨1, _⟩ => ⟨(y 1).val / 2, hq⟩ | ⟨2, _⟩ => ⟨0, Nat.one_pos⟩)
        (fun a ha => match a with | ⟨0, _⟩ => rfl | ⟨1, _⟩ => rfl | ⟨2, _⟩ => absurd rfl ha)
        (by show 0 + 1 = (y 1).val % 2; omega), hb', k]
      exact congrArg _ (if_neg e).symm
  · rw [Shape.rowMajor_val_two, Shape.rowMajor_val_three]
    show ((y 0).val * n + (y 1).val / 2) * 2 + (y 1).val % 2 = (y 0).val * N + (y 1).val
    exact in_turn _ _ _ hN

/-- Two stacks' columns in turn. -/
theorem Is3.interleave {m l n N : ℕ} {v w : FVec Ideal ⟨3, ![m, l, n]⟩ .f32} {x z : ℕ → ℕ → ℕ → ℝ} (h : Is3 v x) (k : Is3 w z)
    (hm : m ≠ 1) (hl : l ≠ 1) (hn : n ≠ 1) (hN : N = n * 2)
    (hb : (⟨3, ![m, l, n]⟩ : Shape).BroadcastsInDim ⟨4, ![m, l, n, 1]⟩ (![0, 1, 2] : Fin 3 → Fin 4))
    (hc : Shape.Concatenates [⟨4, ![m, l, n, 1]⟩, ⟨4, ![m, l, n, 1]⟩] ⟨4, ![m, l, n, 2]⟩ 3)
    (hs : (⟨4, ![m, l, n, 2]⟩ : Shape).ShapeCasts ⟨3, ![m, l, N]⟩) :
    Is3 (m := m) (k := l) (n := N) (shapeCast ⟨3, ![m, l, N]⟩ (concatenate ⟨4, ![m, l, n, 2]⟩ 3
      [⟨⟨4, ![m, l, n, 1]⟩, broadcastInDim ⟨4, ![m, l, n, 1]⟩ ![0, 1, 2] hb v⟩,
       ⟨⟨4, ![m, l, n, 1]⟩, broadcastInDim ⟨4, ![m, l, n, 1]⟩ ![0, 1, 2] hb w⟩] hc) hs)
      fun i r j => if j % 2 = 0 then x i r (j / 2) else z i r (j / 2) := fun y => by
  have hy : (y 2).val < N := (y 2).isLt
  have hb' : ∀ (v : FVec Ideal ⟨3, ![m, l, n]⟩ .f32) (q : (⟨4, ![m, l, n, 1]⟩ : Shape).Idx), broadcastInDim ⟨4, ![m, l, n, 1]⟩ ![0, 1, 2] hb v q
      = v (fun a => match a with | ⟨0, _⟩ => ⟨(q 0).val, (q 0).isLt⟩ | ⟨1, _⟩ => ⟨(q 1).val, (q 1).isLt⟩ | ⟨2, _⟩ => ⟨(q 2).val, (q 2).isLt⟩) := fun v q =>
    broadcastInDim_apply _ hb v q _ (fun a => match a with
      | ⟨0, _⟩ => (if_neg hm).symm | ⟨1, _⟩ => (if_neg hl).symm | ⟨2, _⟩ => (if_neg hn).symm)
  have hq : (y 2).val / 2 < n := by omega
  rw [shapeCast_apply _ hs y (fun a => match a with
      | ⟨0, _⟩ => ⟨(y 0).val, (y 0).isLt⟩ | ⟨1, _⟩ => ⟨(y 1).val, (y 1).isLt⟩ | ⟨2, _⟩ => ⟨(y 2).val / 2, hq⟩
      | ⟨3, _⟩ => ⟨(y 2).val % 2, Nat.mod_lt _ (by decide)⟩)]
  · by_cases e : (y 2).val % 2 = 0
    · rw [concatenate_pair_apply_left 3 _ _ hc _ rfl (fun a => match a with
          | ⟨0, _⟩ => ⟨(y 0).val, (y 0).isLt⟩ | ⟨1, _⟩ => ⟨(y 1).val, (y 1).isLt⟩ | ⟨2, _⟩ => ⟨(y 2).val / 2, hq⟩ | ⟨3, _⟩ => ⟨0, Nat.one_pos⟩)
        (fun a => match a with | ⟨0, _⟩ => rfl | ⟨1, _⟩ => rfl | ⟨2, _⟩ => rfl | ⟨3, _⟩ => e.symm), hb', h]
      exact congrArg _ (if_pos e).symm
    · rw [concatenate_pair_apply_right 3 _ _ hc _ rfl rfl (fun a => match a with
          | ⟨0, _⟩ => ⟨(y 0).val, (y 0).isLt⟩ | ⟨1, _⟩ => ⟨(y 1).val, (y 1).isLt⟩ | ⟨2, _⟩ => ⟨(y 2).val / 2, hq⟩ | ⟨3, _⟩ => ⟨0, Nat.one_pos⟩)
        (fun a ha => match a with | ⟨0, _⟩ => rfl | ⟨1, _⟩ => rfl | ⟨2, _⟩ => rfl | ⟨3, _⟩ => absurd rfl ha)
        (by show 0 + 1 = (y 2).val % 2; omega), hb', k]
      exact congrArg _ (if_neg e).symm
  · rw [Shape.rowMajor_val_three, Shape.rowMajor_val_four]
    show (((y 0).val * l + (y 1).val) * n + (y 2).val / 2) * 2 + (y 2).val % 2 = ((y 0).val * l + (y 1).val) * N + (y 2).val
    exact in_turn _ _ _ hN

/-- A first column, `n` columns and a last column put together. -/
theorem Is2.ends {m n N : ℕ} {u w : FVec Ideal ⟨2, ![m, 1]⟩ .f32} {v : FVec Ideal ⟨2, ![m, n]⟩ .f32} {a x b : ℕ → ℕ → ℝ}
    (hu : Is2 u a) (h : Is2 v x) (hw : Is2 w b) (hN : N = n + 2)
    (hc : Shape.Concatenates [⟨2, ![m, 1]⟩, ⟨2, ![m, n]⟩, ⟨2, ![m, 1]⟩] ⟨2, ![m, N]⟩ 1) :
    Is2 (m := m) (n := N) (concatenate ⟨2, ![m, N]⟩ 1 [⟨⟨2, ![m, 1]⟩, u⟩, ⟨⟨2, ![m, n]⟩, v⟩, ⟨⟨2, ![m, 1]⟩, w⟩] hc)
      fun i j => if j < 1 then a i j else if j < n + 1 then x i (j - 1) else b i (j - (n + 1)) := fun y => by
  have hy : (y 1).val < N := (y 1).isLt
  have piece := concatenate_apply_piece (t := ⟨2, ![m, N]⟩) 1 [⟨⟨2, ![m, 1]⟩, u⟩, ⟨⟨2, ![m, n]⟩, v⟩, ⟨⟨2, ![m, 1]⟩, w⟩] hc y
  by_cases h1 : (y 1).val < 1
  · rw [piece 0 (by simp) ⟨2, ![m, 1]⟩ u rfl rfl 0 rfl
      (fun c => match c with | ⟨0, _⟩ => ⟨(y 0).val, (y 0).isLt⟩ | ⟨1, _⟩ => ⟨(y 1).val, h1⟩)
      (fun c hc => match c with | ⟨0, _⟩ => rfl | ⟨1, _⟩ => rfl) (Nat.zero_add _), hu]
    exact congrArg _ (if_pos h1).symm
  by_cases h2 : (y 1).val < n + 1
  · rw [piece 1 (by simp) ⟨2, ![m, n]⟩ v rfl rfl 1 rfl
      (fun c => match c with | ⟨0, _⟩ => ⟨(y 0).val, (y 0).isLt⟩ | ⟨1, _⟩ => ⟨(y 1).val - 1, by show _ < n; omega⟩)
      (fun c hc => match c with | ⟨0, _⟩ => rfl | ⟨1, _⟩ => absurd rfl hc) (by show 1 + ((y 1).val - 1) = (y 1).val; omega), h]
    exact congrArg _ ((if_neg h1).trans (if_pos h2)).symm
  · rw [piece 2 (by simp) ⟨2, ![m, 1]⟩ w rfl rfl (n + 1) (by show 1 + (n + 0) = n + 1; omega)
      (fun c => match c with | ⟨0, _⟩ => ⟨(y 0).val, (y 0).isLt⟩ | ⟨1, _⟩ => ⟨(y 1).val - (n + 1), by show _ < 1; omega⟩)
      (fun c hc => match c with | ⟨0, _⟩ => rfl | ⟨1, _⟩ => absurd rfl hc) (by show n + 1 + ((y 1).val - (n + 1)) = (y 1).val; omega), hw]
    exact congrArg _ ((if_neg h1).trans (if_neg h2)).symm

theorem Is3.ends {m l n N : ℕ} {u w : FVec Ideal ⟨3, ![m, l, 1]⟩ .f32} {v : FVec Ideal ⟨3, ![m, l, n]⟩ .f32} {a x b : ℕ → ℕ → ℕ → ℝ}
    (hu : Is3 u a) (h : Is3 v x) (hw : Is3 w b) (hN : N = n + 2)
    (hc : Shape.Concatenates [⟨3, ![m, l, 1]⟩, ⟨3, ![m, l, n]⟩, ⟨3, ![m, l, 1]⟩] ⟨3, ![m, l, N]⟩ 2) :
    Is3 (m := m) (k := l) (n := N) (concatenate ⟨3, ![m, l, N]⟩ 2 [⟨⟨3, ![m, l, 1]⟩, u⟩, ⟨⟨3, ![m, l, n]⟩, v⟩, ⟨⟨3, ![m, l, 1]⟩, w⟩] hc)
      fun i r j => if j < 1 then a i r j else if j < n + 1 then x i r (j - 1) else b i r (j - (n + 1)) := fun y => by
  have hy : (y 2).val < N := (y 2).isLt
  have piece := concatenate_apply_piece (t := ⟨3, ![m, l, N]⟩) 2 [⟨⟨3, ![m, l, 1]⟩, u⟩, ⟨⟨3, ![m, l, n]⟩, v⟩, ⟨⟨3, ![m, l, 1]⟩, w⟩] hc y
  by_cases h1 : (y 2).val < 1
  · rw [piece 0 (by simp) ⟨3, ![m, l, 1]⟩ u rfl rfl 0 rfl
      (fun c => match c with | ⟨0, _⟩ => ⟨(y 0).val, (y 0).isLt⟩ | ⟨1, _⟩ => ⟨(y 1).val, (y 1).isLt⟩ | ⟨2, _⟩ => ⟨(y 2).val, h1⟩)
      (fun c hc => match c with | ⟨0, _⟩ => rfl | ⟨1, _⟩ => rfl | ⟨2, _⟩ => rfl) (Nat.zero_add _), hu]
    exact congrArg _ (if_pos h1).symm
  by_cases h2 : (y 2).val < n + 1
  · rw [piece 1 (by simp) ⟨3, ![m, l, n]⟩ v rfl rfl 1 rfl
      (fun c => match c with | ⟨0, _⟩ => ⟨(y 0).val, (y 0).isLt⟩ | ⟨1, _⟩ => ⟨(y 1).val, (y 1).isLt⟩ | ⟨2, _⟩ => ⟨(y 2).val - 1, by show _ < n; omega⟩)
      (fun c hc => match c with | ⟨0, _⟩ => rfl | ⟨1, _⟩ => rfl | ⟨2, _⟩ => absurd rfl hc) (by show 1 + ((y 2).val - 1) = (y 2).val; omega), h]
    exact congrArg _ ((if_neg h1).trans (if_pos h2)).symm
  · rw [piece 2 (by simp) ⟨3, ![m, l, 1]⟩ w rfl rfl (n + 1) (by show 1 + (n + 0) = n + 1; omega)
      (fun c => match c with | ⟨0, _⟩ => ⟨(y 0).val, (y 0).isLt⟩ | ⟨1, _⟩ => ⟨(y 1).val, (y 1).isLt⟩ | ⟨2, _⟩ => ⟨(y 2).val - (n + 1), by show _ < 1; omega⟩)
      (fun c hc => match c with | ⟨0, _⟩ => rfl | ⟨1, _⟩ => rfl | ⟨2, _⟩ => absurd rfl hc) (by show n + 1 + ((y 2).val - (n + 1)) = (y 2).val; omega), hw]
    exact congrArg _ ((if_neg h1).trans (if_neg h2)).symm

end Cert.Sort

end
-- ==== Proof.KernelIdealValue.lean ====
/- The fused kernel's block arithmetic over the reals: on a block of real input rows, every value the kernel computes is
   real, and after `n` fused passes the values and the matrices are those of the network (Net.lean) on each row. -/
module

public import proofs.«01_k».proof.Proof.Reals
public import proofs.«01_k».proof.Proof.KernelIdealBody

@[expose] public section

set_option maxRecDepth 16384

noncomputable section

namespace Cert.Sort.KernelIdeal

open Cert.KernelIdeal Cert.KernelIdeal.Gen
open Idealize.ShloMosaic Idealize.ShloMosaic.TcCoe Idealize.ShloMosaic.ValueIdx

/-! ## The kernel's lane masks -/

/-- Even lanes. -/
theorem mask19 : IsMask (n := 128) k0_pay19 fun j => j % 2 = 0 := fun y => by
  have h : ∀ j : Fin 128, k0_pay19 (fun a => match a with | ⟨0, _⟩ => (0 : Fin 1) | ⟨1, _⟩ => j) = if j.val % 2 = 0 then 1#1 else 0#1 := by
    decide +kernel
  have e : y = (fun a => match a with | ⟨0, _⟩ => (0 : Fin 1) | ⟨1, _⟩ => y 1) := by
    funext a
    match a with
    | ⟨0, _⟩ => exact Subsingleton.elim (α := Fin 1) _ _
    | ⟨1, _⟩ => rfl
  rw [e]; exact h (y 1)

/-- Every lane. -/
theorem mask20 : IsMask (n := 128) k0_pay20 fun _ => True := fun y => rfl

/-- Odd lanes up to 125. -/
theorem mask21 : IsMask (n := 128) k0_pay21 fun j => j % 2 = 1 ∧ j ≤ 125 := fun y => by
  have h : ∀ j : Fin 128, k0_pay21 (fun a => match a with | ⟨0, _⟩ => (0 : Fin 1) | ⟨1, _⟩ => j) = if j.val % 2 = 1 ∧ j.val ≤ 125 then 1#1 else 0#1 := by
    decide +kernel
  have e : y = (fun a => match a with | ⟨0, _⟩ => (0 : Fin 1) | ⟨1, _⟩ => y 1) := by
    funext a
    match a with
    | ⟨0, _⟩ => exact Subsingleton.elim (α := Fin 1) _ _
    | ⟨1, _⟩ => rfl
  rw [e]; exact h (y 1)

/-- All lanes but the first and the last. -/
theorem mask22 : IsMask (n := 128) k0_pay22 fun j => 1 ≤ j ∧ j ≤ 126 := fun y => by
  have h : ∀ j : Fin 128, k0_pay22 (fun a => match a with | ⟨0, _⟩ => (0 : Fin 1) | ⟨1, _⟩ => j) = if 1 ≤ j.val ∧ j.val ≤ 126 then 1#1 else 0#1 := by
    decide +kernel
  have e : y = (fun a => match a with | ⟨0, _⟩ => (0 : Fin 1) | ⟨1, _⟩ => y 1) := by
    funext a
    match a with
    | ⟨0, _⟩ => exact Subsingleton.elim (α := Fin 1) _ _
    | ⟨1, _⟩ => rfl
  rw [e]; exact h (y 1)

/-! ## The values of one fused pass -/

section Pass
variable {a : Vec Ideal S32x128 .f32} {x : ℕ → ℕ → ℝ}

/-- The first layer's partners; -/
theorem is_pay1 (h : Is2 a x) : Is2 (m := 32) (n := 128) (k0_pay1 k0_pay19 a) fun i j => x i (swA j) := by
  refine (mask19.select (h.rollL slices_S32x128_o0_1_S32x127 slices_S32x128_o0_0_S32x1 concatenates_S32x127_S32x1_S32x128_d1)
    (h.rollR slices_S32x128_o0_127_S32x1 slices_S32x128_o0_0_S32x127 concatenates_S32x1_S32x127_S32x128_d1) (by decide)
    shapeCasts_S1x128_S1x128 broadcasts_S1x128_S32x128).congr fun i j hi hj => ?_
  unfold swA
  split_ifs with e
  · exact congrArg (x i) (by omega)
  · exact congrArg (x i) (by omega)

/-- the weights it keeps; -/
theorem is_pay2 (h : Is2 a x) : Is2 (m := 32) (n := 128) (k0_pay2 k0_pay19 k0_pay20 a) fun i j => wA (x i) j := by
  have s := h.logistic (is_pay1 h)
  refine (mask20.select (mask19.select s ((is2_const bits_one).sub s) (by decide) shapeCasts_S1x128_S1x128 broadcasts_S1x128_S32x128)
    (is2_const bits_one) (by decide) shapeCasts_S1x128_S1x128 broadcasts_S1x128_S32x128).congr fun i j hi hj => ?_
  rw [if_pos trivial]
  exact wA_eq (x i) j

/-- the values after it. -/
theorem is_pay3 (h : Is2 a x) : Is2 (m := 32) (n := 128) (k0_pay3 k0_pay19 k0_pay20 a) fun i j => layerA (x i) j :=
  ((is_pay1 h).add ((is_pay2 h).mul (h.sub (is_pay1 h)))).congr fun i j hi hj => mix_eq swA (wA (x i)) (x i) j

/-- The second layer's partners, -/
theorem is_pay4 (h : Is2 a x) : Is2 (m := 32) (n := 128) (k0_pay4 k0_pay19 k0_pay20 k0_pay21 a) fun i j => layerA (x i) (partB j) := by
  have h3 := is_pay3 h
  refine (mask21.select (h3.rollL slices_S32x128_o0_1_S32x127 slices_S32x128_o0_0_S32x1 concatenates_S32x127_S32x1_S32x128_d1)
    (h3.rollR slices_S32x128_o0_127_S32x1 slices_S32x128_o0_0_S32x127 concatenates_S32x1_S32x127_S32x128_d1) (by decide)
    shapeCasts_S1x128_S1x128 broadcasts_S1x128_S32x128).congr fun i j hi hj => ?_
  unfold partB
  split_ifs with e <;> rfl

/-- how far the pairs are in order, -/
theorem is_pay5 (h : Is2 a x) : Is2 (m := 32) (n := 128) (k0_pay5 k0_pay19 k0_pay20 k0_pay21 a)
    fun i j => alpha (layerA (x i) j) (layerA (x i) (partB j)) := (is_pay3 h).logistic (is_pay4 h)

/-- and what is left of one. -/
theorem is_pay6 (h : Is2 a x) : Is2 (m := 32) (n := 128) (k0_pay6 k0_pay19 k0_pay20 k0_pay21 a)
    fun i j => 1 - alpha (layerA (x i) j) (layerA (x i) (partB j)) := (is2_const bits_one).sub (is_pay5 h)

/-- The second layer's weights. -/
theorem is_pay7 (h : Is2 a x) : Is2 (m := 32) (n := 128) (k0_pay7 k0_pay21 k0_pay22 (k0_pay5 k0_pay19 k0_pay20 k0_pay21 a) (k0_pay6 k0_pay19 k0_pay20 k0_pay21 a))
    fun i j => wB (layerA (x i)) j := by
  refine (mask22.select (mask21.select (is_pay5 h) (is_pay6 h) (by decide) shapeCasts_S1x128_S1x128 broadcasts_S1x128_S32x128)
    (is2_const bits_one) (by decide) shapeCasts_S1x128_S1x128 broadcasts_S1x128_S32x128).congr fun i j hi hj => ?_
  exact wB_eq (layerA (x i)) hj

/-- The values after the pass are the network's. -/
theorem is_pairX (h : Is2 a x) : Is2 (m := 32) (n := 128) (pairX k0_pay19 k0_pay20 k0_pay21 k0_pay22 a) fun i j => netX (x i) j :=
  ((is_pay4 h).add ((is_pay7 h).mul ((is_pay3 h).sub (is_pay4 h)))).congr fun i j hi hj => mixB_eq (layerA (x i)) (layerA (x i)) hj

/-- Eight rows of the matrix after the pass. -/
theorem is_pay9 (h : Is2 a x) {c : Vec Ideal S32x8x128 .f32} {M : ℕ → ℕ → ℕ → ℝ} (hc : Is3 c M) :
    Is3 (m := 32) (k := 8) (n := 128) (k0_pay9 k0_pay19 k0_pay21 k0_pay22 (k0_pay2 k0_pay19 k0_pay20 a)
      (k0_pay5 k0_pay19 k0_pay20 k0_pay21 a) (k0_pay6 k0_pay19 k0_pay20 k0_pay21 a) c)
      fun i r j => netM (x i) (M i) r j := by
  have w1 := is_pay2 h
  have w2 := is_pay7 h
  have one : Is2 (m := 32) (n := 128) _ _ := is2_const bits_one
  have zero : Is2 (m := 32) (n := 128) _ _ := is2_const bits_zero
  have p := mask19.select (w1.rollR slices_S32x128_o0_127_S32x1 slices_S32x128_o0_0_S32x127 concatenates_S32x1_S32x127_S32x128_d1)
    (w1.rollL slices_S32x128_o0_1_S32x127 slices_S32x128_o0_0_S32x1 concatenates_S32x127_S32x1_S32x128_d1)
    (by decide) shapeCasts_S1x128_S1x128 broadcasts_S1x128_S32x128
  have ca := w2.mul w1
  have b116 := w2.mul (one.sub w1)
  have b119 := (one.sub w2).mul p
  have b124 := (one.sub w2).mul (one.sub p)
  have cm1 := mask19.select b116 b119 (by decide) shapeCasts_S1x128_S1x128 broadcasts_S1x128_S32x128
  have cp1 := mask19.select b119 b116 (by decide) shapeCasts_S1x128_S1x128 broadcasts_S1x128_S32x128
  have cm2 := mask19.select zero b124 (by decide) shapeCasts_S1x128_S1x128 broadcasts_S1x128_S32x128
  have cp2 := mask19.select b124 zero (by decide) shapeCasts_S1x128_S1x128 broadcasts_S1x128_S32x128
  have sp : ∀ {v : FVec Ideal S32x128 .f32} {z : ℕ → ℕ → ℝ}, Is2 v z → Is3 (m := 32) (k := 8) (n := 128) _ _ := fun hv =>
    hv.spread (k := 8) (by decide) (by decide) shapeCasts_S32x128_S32x1x128 broadcasts_S32x1x128_S32x8x128
  have t := (((((sp ca).mul hc).add ((sp cm1).mul (hc.rotate 127#32 1 (by decide) rotates_S32x8x128_d2))).add
    ((sp cp1).mul (hc.rotate 1#32 127 (by decide) rotates_S32x8x128_d2))).add
    ((sp cm2).mul (hc.rotate 126#32 2 (by decide) rotates_S32x8x128_d2))).add
    ((sp cp2).mul (hc.rotate 2#32 126 (by decide) rotates_S32x8x128_d2))
  unfold k0_pay9
  simp only [shapeCast_self _ shapeCasts_S32x8x128_S32x8x128]
  exact t.congr fun i r j hi hr hj => taps (layerA (x i)) (wA (x i)) (M i r) hj _ _ rfl rfl

/-- The matrices after the pass. -/
theorem is_pairM (h : Is2 a x) {X : Vec Ideal S32x128x128 .f32} {M : ℕ → ℕ → ℕ → ℝ} (hX : Is3 X M) :
    Is3 (m := 32) (k := 128) (n := 128) (pairM k0_pay19 k0_pay20 k0_pay21 k0_pay22 a X) fun i r j => netM (x i) (M i) r j := fun y => by
  have hc : Is3 (m := 32) (k := 8) (n := 128) (View.ld X (rows _ (chunk_lt y))) fun i r j => M i (8 * ((y 1).val / 8) + r) j := fun z => by
    show X ((rows _ (chunk_lt y)).emb z) = _
    rw [hX]
    show ((M (0 + 1 * (z 0).val) (8 * ((y 1).val / 8) + 1 * (z 1).val) (0 + 1 * (z 2).val) : ℝ) : EReal) = _
    rw [Nat.zero_add, Nat.zero_add, Nat.one_mul, Nat.one_mul, Nat.one_mul]
  have e := is_pay9 h hc (inChunk y)
  refine e.trans ?_
  show ((netM (x (y 0).val) (fun r j => M (y 0).val (8 * ((y 1).val / 8) + r) j) ((y 1).val % 8) (y 2).val : ℝ) : EReal) = _
  unfold netM
  dsimp only
  rw [Nat.div_add_mod]

end Pass

/-! ## All passes -/

/-- One identity matrix, from two counts compared. -/
theorem is_eye : Is2 (m := 128) (n := 128) (sitofp (F := Ideal) .f32 (extui 32 (cmpi .eq (iota .tc S128x128 32 [0] iota_S128x128_d0_w32)
    (iota .tc S128x128 32 [1] iota_S128x128_d1_w32)) natLt_1_32)) fun r j => if r = j then 1 else 0 := fun y => by
  show FloatOps.sitofp (F := Ideal) .f32 (BitVec.setWidth 32 (IntOp.cmpi .eq (iota .tc S128x128 32 [0] iota_S128x128_d0_w32 y)
    (iota .tc S128x128 32 [1] iota_S128x128_d1_w32 y))) = _
  rw [iota_single_apply, iota_single_apply, eq_bit (y 0).isLt (y 1).isLt]
  show ((((BitVec.setWidth 32 (if (y 0).val = (y 1).val then 1#1 else 0#1)).toInt : ℝ)) : EReal) = (((if (y 0).val = (y 1).val then 1 else 0 : ℝ)) : EReal)
  split_ifs <;> simp

/-- The matrices the kernel begins with are the identity. -/
theorem is_pay23 : Is3 (m := 32) (k := 128) (n := 128) (k0_pay23 (F := Ideal)) fun _ r j => if r = j then 1 else 0 := fun y => by
  have h1 : (y 1).val < 128 := (y 1).isLt
  have h2 : (y 2).val < 128 := (y 2).isLt
  unfold k0_pay23
  rw [broadcastTo_apply _ broadcasts_S1x128x128_S32x128x128 y
    (fun a => match a with | ⟨0, _⟩ => ⟨0, Nat.one_pos⟩ | ⟨1, _⟩ => ⟨(y 1).val, h1⟩ | ⟨2, _⟩ => ⟨(y 2).val, h2⟩)
    (fun a => match a with | ⟨0, _⟩ => rfl | ⟨1, _⟩ => rfl | ⟨2, _⟩ => rfl)]
  rw [shapeCast_self, shapeCast_apply _ shapeCasts_S128x128_S1x128x128 _ (fun a => match a with | ⟨0, _⟩ => ⟨(y 1).val, h1⟩ | ⟨1, _⟩ => ⟨(y 2).val, h2⟩)]
  · exact is_eye _
  · rw [Shape.rowMajor_val_two, Shape.rowMajor_val_three]
    show (y 1).val * 128 + (y 2).val = (0 * 128 + (y 1).val) * 128 + (y 2).val
    ring

/-- After `n` passes from real rows: the network after `n` pairs of layers, on every row. -/
theorem is_passes {a : Vec Ideal S32x128 .f32} {x : ℕ → ℕ → ℝ} (h : Is2 a x) (n : ℕ) :
    Is2 (m := 32) (n := 128) (passes k0_pay19 k0_pay20 k0_pay21 k0_pay22 a n).1 (fun i => (net (x i) n).1)
    ∧ Is3 (m := 32) (k := 128) (n := 128) (passes k0_pay19 k0_pay20 k0_pay21 k0_pay22 a n).2 (fun i => (net (x i) n).2) := by
  induction n with
  | zero => exact ⟨h, is_pay23⟩
  | succ n ih => exact ⟨is_pairX ih.1, is_pairM ih.1 ih.2⟩

theorem is_outX {a : Vec Ideal S32x128 .f32} {x : ℕ → ℕ → ℝ} (h : Is2 a x) :
    Is2 (m := 32) (n := 128) (outX a) fun i => (net (x i) 64).1 := (is_passes h 64).1
theorem is_outM {a : Vec Ideal S32x128 .f32} {x : ℕ → ℕ → ℝ} (h : Is2 a x) :
    Is3 (m := 32) (k := 128) (n := 128) (outM a) fun i => (net (x i) 64).2 := (is_passes h 64).2

end Cert.Sort.KernelIdeal

end
-- ==== Proof.KernelIdealArrays.lean ====
/- The two result arrays of the kernel at the extended reals, where the input is real: each point writes its 32 rows, and
   together the eight points leave the network's values and matrices of every row. -/
module

public import proofs.«01_k».proof.Proof.KernelIdealValue
public import proofs.«01_k».proof.Proof.KernelIdealRun
public import Idealize.ShloMosaic.Lib.Pipeline.Value

@[expose] public section

set_option maxRecDepth 16384

noncomputable section

namespace Cert.Sort.KernelIdeal

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The network's values on every row of `x`, as an array; -/
def arrX (x : ℕ → ℕ → ℝ) : Vec Ideal S256x128 .f32 := fun y => (((net (x (y 0).val) 64).1 (y 1).val : ℝ) : EReal)
/-- its matrices. -/
def arrM (x : ℕ → ℕ → ℝ) : Vec Ideal S256x128x128 .f32 := fun y => (((net (x (y 0).val) 64).2 (y 1).val (y 2).val : ℝ) : EReal)

/-- Where a point's blocks begin. -/
theorem offs (t : Fin cfg0.N) : win0_0.index t 0 * win0_0.size 0 = t.val * 32 ∧ win0_0.index t 1 * win0_0.size 1 = 0
    ∧ win0_1.index t 0 * win0_1.size 0 = t.val * 32 ∧ win0_1.index t 1 * win0_1.size 1 = 0
    ∧ win0_2.index t 0 * win0_2.size 0 = t.val * 32 ∧ win0_2.index t 1 * win0_2.size 1 = 0 ∧ win0_2.index t 2 * win0_2.size 2 = 0 := by
  rcases fin_N0 t with rfl | rfl | rfl | rfl | rfl | rfl | rfl | rfl <;> decide +kernel

/-- How far they reach. -/
theorem ext (t : Fin cfg0.N) : win0_1.xsize (grid0.coords t) 0 = 32 ∧ win0_1.xsize (grid0.coords t) 1 = 128
    ∧ win0_2.xsize (grid0.coords t) 0 = 32 ∧ win0_2.xsize (grid0.coords t) 1 = 128 ∧ win0_2.xsize (grid0.coords t) 2 = 128 := by
  rcases fin_N0 t with rfl | rfl | rfl | rfl | rfl | rfl | rfl | rfl <;> decide +kernel

section Blocks
variable {m} {c : Dev nD} {x : ℕ → ℕ → ℝ} (hx : Is2 (m := 256) (n := 128) (m ((c.tc : Thread nD τ).loc main_arg0)) x)
include hx

/-- The rows a point reads. -/
theorem is_inRows (t : Fin cfg0.N) : Is2 (m := 32) (n := 128) (inRows m c t) fun i j => x (t.val * 32 + i) j := fun y => by
  have o := offs t
  unfold inRows iblk
  show m ((c.tc : Thread nD τ).loc main_arg0) ((win0_0.rect t).emb y) = _
  rw [hx]
  show ((x (win0_0.index t 0 * win0_0.size 0 + 1 * (y 0).val) (win0_0.index t 1 * win0_0.size 1 + 1 * (y 1).val) : ℝ) : EReal) = _
  rw [o.1, o.2.1, Nat.one_mul, Nat.one_mul, Nat.zero_add]

theorem flushed1 (t : Fin cfg0.N) : (dats m 0 c).flushed 1 t = (win0_1.blk t).view.read (Elt Ideal) (arrX x) := by
  have o := offs t
  show (cfg0.win 1).cut (grid0.coords t) ((dats m 0 c).after 1 t) = _
  rw [after1]
  funext y
  refine (is_outX (is_inRows hx t) y).trans ?_
  show _ = arrX x ((win0_1.rect t).emb y)
  show (((net (x (t.val * 32 + (y 0).val)) 64).1 (y 1).val : ℝ) : EReal)
    = (((net (x (win0_1.index t 0 * win0_1.size 0 + 1 * (y 0).val)) 64).1 (win0_1.index t 1 * win0_1.size 1 + 1 * (y 1).val) : ℝ) : EReal)
  rw [o.2.2.1, o.2.2.2.1, Nat.one_mul, Nat.one_mul, Nat.zero_add]

theorem flushed2 (t : Fin cfg0.N) : (dats m 0 c).flushed 2 t = (win0_2.blk t).view.read (Elt Ideal) (arrM x) := by
  have o := offs t
  show (cfg0.win 2).cut (grid0.coords t) ((dats m 0 c).after 2 t) = _
  rw [after2]
  funext y
  refine (is_outM (is_inRows hx t) y).trans ?_
  show _ = arrM x ((win0_2.rect t).emb y)
  show (((net (x (t.val * 32 + (y 0).val)) 64).2 (y 1).val (y 2).val : ℝ) : EReal)
    = (((net (x (win0_2.index t 0 * win0_2.size 0 + 1 * (y 0).val)) 64).2 (win0_2.index t 1 * win0_2.size 1 + 1 * (y 1).val)
      (win0_2.index t 2 * win0_2.size 2 + 1 * (y 2).val) : ℝ) : EReal)
  rw [o.2.2.2.2.1, o.2.2.2.2.2.1, o.2.2.2.2.2.2, Nat.one_mul, Nat.one_mul, Nat.one_mul, Nat.zero_add, Nat.zero_add]

end Blocks

/-- The entries of the values' array in a point's block are those of its 32 rows, -/
theorem mem1 (t : Fin cfg0.N) (i : S256x128.Idx) (h : t.val * 32 ≤ (i 0 : Nat) ∧ (i 0 : Nat) < t.val * 32 + 32) :
    i ∈ ((cfg0.win 1).blk t).view.set := by
  have o := offs t
  have e := ext t
  have h1 : (i 1 : Nat) < 128 := (i 1).isLt
  show i ∈ ((View.whole main_v0_0).slice (win0_1.rect t)).set
  rw [View.set_slice_whole, Rect.mem_set_unit]
  intro a
  match a with
  | ⟨0, _⟩ =>
    show win0_1.index t 0 * win0_1.size 0 ≤ (i 0 : Nat) ∧ (i 0 : Nat) < win0_1.index t 0 * win0_1.size 0 + win0_1.xsize (grid0.coords t) 0
    rw [o.2.2.1, e.1]; exact h
  | ⟨1, _⟩ =>
    show win0_1.index t 1 * win0_1.size 1 ≤ (i 1 : Nat) ∧ (i 1 : Nat) < win0_1.index t 1 * win0_1.size 1 + win0_1.xsize (grid0.coords t) 1
    rw [o.2.2.2.1, e.2.1]; omega

/-- so every entry lies in some point's block. -/
theorem cover1 (i : S256x128.Idx) : ∃ t : Fin cfg0.N, (cfg0.win 1).flush t = true ∧ i ∈ ((cfg0.win 1).blk t).view.set := by
  have h0 : (i 0 : Nat) < 256 := (i 0).isLt
  have hN : cfg0.N = 8 := N_0
  exact ⟨⟨(i 0 : Nat) / 32, by omega⟩, flush0_1 _, mem1 _ i (by dsimp only; omega)⟩

/-- Likewise in the matrices' array, -/
theorem mem2 (t : Fin cfg0.N) (i : S256x128x128.Idx) (h : t.val * 32 ≤ (i 0 : Nat) ∧ (i 0 : Nat) < t.val * 32 + 32) :
    i ∈ ((cfg0.win 2).blk t).view.set := by
  have o := offs t
  have e := ext t
  have h1 : (i 1 : Nat) < 128 := (i 1).isLt
  have h2 : (i 2 : Nat) < 128 := (i 2).isLt
  show i ∈ ((View.whole main_v0_1).slice (win0_2.rect t)).set
  rw [View.set_slice_whole, Rect.mem_set_unit]
  intro a
  match a with
  | ⟨0, _⟩ =>
    show win0_2.index t 0 * win0_2.size 0 ≤ (i 0 : Nat) ∧ (i 0 : Nat) < win0_2.index t 0 * win0_2.size 0 + win0_2.xsize (grid0.coords t) 0
    rw [o.2.2.2.2.1, e.2.2.1]; exact h
  | ⟨1, _⟩ =>
    show win0_2.index t 1 * win0_2.size 1 ≤ (i 1 : Nat) ∧ (i 1 : Nat) < win0_2.index t 1 * win0_2.size 1 + win0_2.xsize (grid0.coords t) 1
    rw [o.2.2.2.2.2.1, e.2.2.2.1]; omega
  | ⟨2, _⟩ =>
    show win0_2.index t 2 * win0_2.size 2 ≤ (i 2 : Nat) ∧ (i 2 : Nat) < win0_2.index t 2 * win0_2.size 2 + win0_2.xsize (grid0.coords t) 2
    rw [o.2.2.2.2.2.2, e.2.2.2.2]; omega

/-- and every entry lies in some point's block. -/
theorem cover2 (i : S256x128x128.Idx) : ∃ t : Fin cfg0.N, (cfg0.win 2).flush t = true ∧ i ∈ ((cfg0.win 2).blk t).view.set := by
  have h0 : (i 0 : Nat) < 256 := (i 0).isLt
  have hN : cfg0.N = 8 := N_0
  exact ⟨⟨(i 0 : Nat) / 32, by omega⟩, flush0_2 _, mem2 _ i (by dsimp only; omega)⟩

/-- The kernel's run from real rows: both results are the network's, the argument is as it was. -/
theorem run_net (x : Dev nD → ℕ → ℕ → ℝ) (hx : ∀ c : Dev nD, Is2 (m := 256) (n := 128) (m ((c.tc : Thread nD τ).loc main_arg0)) (x c)) :
    θ_run defs (onTc (τ := τ) (main (F := Ideal))) ⟨m, fun _ => 0, ρ⟩ (fun r => ∀ c : Dev nD,
      r.2.mem ((c.tc : Thread nD τ).loc main_v0_0) = arrX (x c)
      ∧ r.2.mem ((c.tc : Thread nD τ).loc main_v0_1) = arrM (x c)
      ∧ r.2.mem ((c.tc : Thread nD τ).loc main_arg0) = m ((c.tc : Thread nD τ).loc main_arg0)) :=
  (θ_run defs _ _).mono (fun _ h c =>
    ⟨(h c).1.trans ((dats m 0 c).arrAt_eq_of_cover 1 (arrX (x c)) (fun t _ => flushed1 (hx c) t) cover1),
     (h c).2.1.trans ((dats m 0 c).arrAt_eq_of_cover 2 (arrM (x c)) (fun t _ => flushed2 (hx c) t) cover2),
     (h c).2.2⟩) (results m ρ)

end Cert.Sort.KernelIdeal

end
-- ==== Proof.ReferenceValue.lean ====
/- The reference over the reals: one trip of its loop, from real values and matrices, is one pair of layers of the network
   (Net.lean) on every row, so after 64 trips it holds what the network ends with. -/
module

public import proofs.«01_k».proof.Proof.Reals
public import proofs.«01_k».proof.Proof.Gen.ReferenceIdeal.Step
public import proofs.«01_k».proof.Proof.Gen.ReferenceIdeal.StepRun

@[expose] public section

set_option maxRecDepth 16384

noncomputable section

namespace Cert.Sort.ReferenceIdeal

open Cert.ReferenceIdeal Cert.ReferenceIdeal.Gen Cert.ReferenceIdeal.Step
open Idealize.ShloMosaic Idealize.ShloMosaic.TcCoe Idealize.ShloMosaic.ValueIdx Idealize.SL.Sem

section Trip
variable {s : State Ideal} {x : ℕ → ℕ → ℝ} {M : ℕ → ℕ → ℕ → ℝ} (j : ℕ)

/-! ## The first layer -/

theorem is_b2 (h : Is2 (m := 256) (n := 128) s.main_v7_2 x) : Is2 (m := 256) (n := 64) (b2 j s) fun i k => x i (0 + 2 * k) :=
  h.second 0 slicesBy_S256x128_S256x64_0s1_0s2
theorem is_b3 (h : Is2 (m := 256) (n := 128) s.main_v7_2 x) : Is2 (m := 256) (n := 64) (b3 j s) fun i k => x i (1 + 2 * k) :=
  h.second 1 slicesBy_S256x128_S256x64_0s1_1s2

/-- How far each pair is in order. -/
theorem is_b24 (h : Is2 (m := 256) (n := 128) s.main_v7_2 x) :
    Is2 (m := 256) (n := 64) (b24 j s) fun i k => alpha (x i (0 + 2 * k)) (x i (1 + 2 * k)) :=
  (is_b2 j h).quotient (is_b3 j h) bcast_S_S256x64

/-- The values after the first layer; -/
theorem is_b59 (h : Is2 (m := 256) (n := 128) s.main_v7_2 x) : Is2 (m := 256) (n := 128) (b59 j s) fun i => layerA (x i) := by
  have a := is_b24 j h
  have e := is_b2 j h
  have o := is_b3 j h
  have r := (is2_hostConst (m := 256) (n := 64) bits_one bcast_S_S256x64).sub a
  exact (((a.mul e).add (r.mul o)).interleave (N := 128) ((r.mul e).add (a.mul o)) (by decide) (by decide) rfl
    bcast_S256x64_S256x64x1_0_1 concatenates_S256x64x1_S256x64x1_S256x64x2_d2 shapeCasts_S256x64x2_S256x128).congr
    fun i k hi hk => pairsA (x i) (x i) k

/-- its matrices. -/
theorem is_b63 (h : Is2 (m := 256) (n := 128) s.main_v7_2 x) (hM : Is3 (m := 256) (k := 128) (n := 128) s.main_v7_3 M) :
    Is3 (m := 256) (k := 128) (n := 128) (b63 j s) fun i r => mix swA (wA (x i)) (M i r) := by
  have a := (is_b24 j h).oneRow (by decide) (by decide) bcast_S256x64_S256x1x64_0_2
  have ra := (is3_hostConst (m := 256) (k := 1) (n := 64) bits_one bcast_S_S256x1x64).sub a
  have aa := Is3.repeatRow (k := 128) a (by decide) (by decide) bcast_S256x1x64_S256x128x64_0_1_2
  have rr := Is3.repeatRow (k := 128) (x := fun i k => 1 - alpha (x i (0 + 2 * k)) (x i (1 + 2 * k))) ra (by decide) (by decide) bcast_S256x1x64_S256x128x64_0_1_2
  have e := hM.second (l := 64) 0 slicesBy_S256x128x128_S256x128x64_0s1_0s1_0s2
  have o := hM.second (l := 64) 1 slicesBy_S256x128x128_S256x128x64_0s1_0s1_1s2
  exact (((aa.mul e).add (rr.mul o)).interleave (N := 128) ((rr.mul e).add (aa.mul o)) (by decide) (by decide) (by decide) rfl
    bcast_S256x128x64_S256x128x64x1_0_1_2 concatenates_S256x128x64x1_S256x128x64x1_S256x128x64x2_d3 shapeCasts_S256x128x64x2_S256x128x128).congr
    fun i r k hi hr hk => pairsA (x i) (M i r) k

/-! ## The second layer, from any values `u` and matrices `U` the first left -/

theorem is_b66 {u : ℕ → ℕ → ℝ} (h : Is2 (m := 256) (n := 128) (b59 j s) u) : Is2 (m := 256) (n := 63) (b66 j s) fun i k => u i (1 + (0 + 2 * k)) :=
  (h.from (l := 126) 1 slices_S256x128_S256x126_0_1 (by decide)).second 0 slicesBy_S256x126_S256x63_0s1_0s2
theorem is_b67 {u : ℕ → ℕ → ℝ} (h : Is2 (m := 256) (n := 128) (b59 j s) u) : Is2 (m := 256) (n := 63) (b67 j s) fun i k => u i (1 + (1 + 2 * k)) :=
  (h.from (l := 126) 1 slices_S256x128_S256x126_0_1 (by decide)).second 1 slicesBy_S256x126_S256x63_0s1_1s2

/-- How far each pair is in order. -/
theorem is_b88 {u : ℕ → ℕ → ℝ} (h : Is2 (m := 256) (n := 128) (b59 j s) u) :
    Is2 (m := 256) (n := 63) (b88 j s) fun i k => alpha (u i (1 + (0 + 2 * k))) (u i (1 + (1 + 2 * k))) :=
  (is_b66 j h).quotient (is_b67 j h) bcast_S_S256x63

/-- The values after the second layer; -/
theorem is_b130 {u : ℕ → ℕ → ℝ} (h : Is2 (m := 256) (n := 128) (b59 j s) u) :
    Is2 (m := 256) (n := 128) (b130 j s) fun i => mix swB (wB (u i)) (u i) := by
  have a := is_b88 j h
  have e := is_b66 j h
  have o := is_b67 j h
  have r := (is2_hostConst (m := 256) (n := 63) bits_one bcast_S_S256x63).sub a
  have t := ((a.mul e).add (r.mul o)).interleave (N := 126) ((r.mul e).add (a.mul o)) (by decide) (by decide) rfl
    bcast_S256x63_S256x63x1_0_1 concatenates_S256x63x1_S256x63x1_S256x63x2_d2 shapeCasts_S256x63x2_S256x126
  exact ((h.from (l := 1) 0 slices_S256x128_S256x1_0_0 (by decide)).ends (N := 128) t
    (h.from (l := 1) 127 slices_S256x128_S256x1_0_127 (by decide)) rfl concatenates_S256x1_S256x126_S256x1_S256x128_d1).congr
    fun i k hi hk => pairsB (u i) (u i) hk

/-- its matrices. -/
theorem is_b133 {u : ℕ → ℕ → ℝ} {U : ℕ → ℕ → ℕ → ℝ} (h : Is2 (m := 256) (n := 128) (b59 j s) u)
    (hU : Is3 (m := 256) (k := 128) (n := 128) (b63 j s) U) :
    Is3 (m := 256) (k := 128) (n := 128) (b133 j s) fun i r => mix swB (wB (u i)) (U i r) := by
  have a := (is_b88 j h).oneRow (by decide) (by decide) bcast_S256x63_S256x1x63_0_2
  have ra := (is3_hostConst (m := 256) (k := 1) (n := 63) bits_one bcast_S_S256x1x63).sub a
  have aa := Is3.repeatRow (k := 128) a (by decide) (by decide) bcast_S256x1x63_S256x128x63_0_1_2
  have rr := Is3.repeatRow (k := 128) (x := fun i k => 1 - alpha (u i (1 + (0 + 2 * k))) (u i (1 + (1 + 2 * k)))) ra (by decide) (by decide) bcast_S256x1x63_S256x128x63_0_1_2
  have inner := hU.from (l := 126) 1 slices_S256x128x128_S256x128x126_0_0_1 (by decide)
  have e := inner.second (l := 63) 0 slicesBy_S256x128x126_S256x128x63_0s1_0s1_0s2
  have o := inner.second (l := 63) 1 slicesBy_S256x128x126_S256x128x63_0s1_0s1_1s2
  have t := ((aa.mul e).add (rr.mul o)).interleave (N := 126) ((rr.mul e).add (aa.mul o)) (by decide) (by decide) (by decide) rfl
    bcast_S256x128x63_S256x128x63x1_0_1_2 concatenates_S256x128x63x1_S256x128x63x1_S256x128x63x2_d3 shapeCasts_S256x128x63x2_S256x128x126
  exact ((hU.from (l := 1) 0 slices_S256x128x128_S256x128x1_0_0_0 (by decide)).ends (N := 128) t
    (hU.from (l := 1) 127 slices_S256x128x128_S256x128x1_0_0_127 (by decide)) rfl concatenates_S256x128x1_S256x128x126_S256x128x1_S256x128x128_d2).congr
    fun i r k hi hr hk => pairsB (u i) (U i r) hk

/-- One trip is one pair of layers. -/
theorem is_step (h : Is2 (m := 256) (n := 128) s.main_v7_2 x) (hM : Is3 (m := 256) (k := 128) (n := 128) s.main_v7_3 M) :
    Is2 (m := 256) (n := 128) (step j s).main_v7_2 (fun i => netX (x i))
    ∧ Is3 (m := 256) (k := 128) (n := 128) (step j s).main_v7_3 (fun i => netM (x i) (M i)) := by
  rw [step_main_v7_2, step_main_v7_3]
  exact ⟨is_b130 j (is_b59 j h), is_b133 j (is_b59 j h) (is_b63 j h hM)⟩

end Trip

/-! ## All trips -/

/-- The reference begins with the identity matrix on every row. -/
theorem is_eye : Is3 (m := 256) (k := 128) (n := 128) (K_main_v6 (F := Ideal)) fun _ r k => if r = k then 1 else 0 := fun y => by
  unfold K_main_v6
  rw [broadcastInDim_apply _ bcast_S128x128_S256x128x128_1_2 _ y (fun a => match a with | ⟨0, _⟩ => ⟨(y 1).val, (y 1).isLt⟩ | ⟨1, _⟩ => ⟨(y 2).val, (y 2).isLt⟩)
    (fun a => match a with | ⟨0, _⟩ => rfl | ⟨1, _⟩ => rfl)]
  show FloatOps.uitofp (F := Ideal) .f32 (IntOp.cmpi .eq (BitVec.ofNat 32 (y 1).val + 0#32) (BitVec.ofNat 32 (y 2).val)) = _
  rw [BitVec.add_zero, eq_bit (y 1).isLt (y 2).isLt]
  show ((((if (y 1).val = (y 2).val then 1#1 else 0#1 : BitVec 1).toNat : ℝ)) : EReal) = (((if (y 1).val = (y 2).val then 1 else 0 : ℝ)) : EReal)
  split_ifs <;> simp

/-- The state after `n` trips. -/
def trips (a : (⟨S256x128, .f32⟩ : BufTy).Contents (Elt Ideal)) : ℕ → State Ideal
  | 0 => init a
  | n + 1 => step n (trips a n)

/-- After `n` trips from real rows: the network after `n` pairs of layers, on every row. -/
theorem is_trips {a : (⟨S256x128, .f32⟩ : BufTy).Contents (Elt Ideal)} {x : ℕ → ℕ → ℝ} (h : Is2 (m := 256) (n := 128) a x) (n : ℕ) :
    Is2 (m := 256) (n := 128) (trips a n).main_v7_2 (fun i => (net (x i) n).1)
    ∧ Is3 (m := 256) (k := 128) (n := 128) (trips a n).main_v7_3 (fun i => (net (x i) n).2) := by
  induction n with
  | zero => exact ⟨h, is_eye⟩
  | succ n ih => exact is_step n ih.1 ih.2

/-- The reference's run from real rows: both results are the network's, the argument is as it was. -/
theorem run_net (m : (ℓ : Loc nD τ sig) → Buf (Elt Ideal) ℓ) (ρ : Dev nD → PrngReg) (x : Dev nD → ℕ → ℕ → ℝ)
    (hx : ∀ c : Dev nD, Is2 (m := 256) (n := 128) (m ((c.tc : Thread nD τ).loc main_arg0)) (x c)) :
    θ_run defs (onTc (τ := τ) (main (F := Ideal))) ⟨m, fun _ => 0, ρ⟩ (fun r => ∀ c : Dev nD,
      Is2 (m := 256) (n := 128) (r.2.mem ((c.tc : Thread nD τ).loc main_v7_2)) (fun i => (net (x c i) 64).1)
      ∧ Is3 (m := 256) (k := 128) (n := 128) (r.2.mem ((c.tc : Thread nD τ).loc main_v7_3)) (fun i => (net (x c i) 64).2)
      ∧ r.2.mem ((c.tc : Thread nD τ).loc main_arg0) = m ((c.tc : Thread nD τ).loc main_arg0)) :=
  (θ_run defs _ _).mono (fun _ h c => by
    have t := is_trips (hx c) 64
    obtain ⟨h1, h2, h3⟩ := h c
    exact ⟨fun y => (congrFun h1 y).trans (t.1 y), fun y => (congrFun h2 y).trans (t.2 y), h3⟩)
    (StepRun.run_iter m ρ (fun c => trips (m ((c.tc : Thread nD τ).loc main_arg0))) (fun c => rfl) (fun c n => rfl))

end Cert.Sort.ReferenceIdeal

end
-- ==== Proof.Value.lean ====
/- The value claim at the extended reals: of a finite input the kernel and the reference leave the same two arrays. -/
module

public import proofs.«01_k».proof.Defs
public import proofs.«01_k».proof.Proof.KernelIdealArrays
public import proofs.«01_k».proof.Proof.ReferenceValue

@[expose] public section

set_option maxRecDepth 16384

noncomputable section

namespace Cert.Sort

open Idealize.ShloMosaic Idealize.ShloMosaic.TcCoe Idealize.SL.Sem

/-- The shapes of the precondition fit. -/
theorem finite_facts : Cert.Pre_finite.Facts := ⟨by decide⟩

/-- The literal the precondition compares with is the infinity above. -/
theorem inf_bits : FloatOps.ofBits (F := Ideal) .f32 0x7F800000#32 = (⊤ : EReal) := by
  show Ideal.ofBits .f32 0x7F800000#32 = ⊤
  simp [Ideal.ofBits, Ideal.ieee]

/-- An extended real whose absolute value is below infinity is real. -/
theorem real_of_abs {a : EReal} (h : max a (-a) < ⊤) : a = ((a.toReal : ℝ) : EReal) := by
  refine (EReal.coe_toReal ?_ ?_).symm
  · rintro rfl
    simp at h
  · rintro rfl
    simp at h

/-- The real at a row and a lane of an array, zero outside it. -/
def realAt (v : FVec Ideal ⟨2, ![256, 128]⟩ .f32) (i j : ℕ) : ℝ :=
  if h : i < 256 ∧ j < 128 then EReal.toReal (v fun a => match a with | ⟨0, _⟩ => ⟨i, h.1⟩ | ⟨1, _⟩ => ⟨j, h.2⟩) else 0

/-- Where the precondition holds every entry is real. -/
theorem is_realAt [Cert.Pre_finite.Facts] {v : FVec Ideal ⟨2, ![256, 128]⟩ .f32}
    (h : Cert.Pre_finite.fn (F := Ideal) v = fun _ => 1#1) : Is2 (m := 256) (n := 128) v (realAt v) := fun y => by
  have e : Ideal.cmp .olt (max (v y) (-(v y))) (FloatOps.ofBits (F := Ideal) .f32 0x7F800000#32) = 1#1 := congrFun h y
  rw [inf_bits] at e
  have lt : max (v y) (-(v y)) < (⊤ : EReal) := by
    by_contra no
    simp [Ideal.cmp, no] at e
  have at_y : (fun a => match a with | ⟨0, _⟩ => ⟨(y 0).val, (y 0).isLt⟩ | ⟨1, _⟩ => ⟨(y 1).val, (y 1).isLt⟩ : (⟨2, ![256, 128]⟩ : Shape).Idx) = y :=
    funext fun a => match a with | ⟨0, _⟩ => rfl | ⟨1, _⟩ => rfl
  have val : realAt v (y 0).val (y 1).val = EReal.toReal (v y) := by
    rw [realAt, dif_pos ⟨(y 0).isLt, (y 1).isLt⟩]
    exact congrArg (fun k => EReal.toReal (v k)) at_y
  rw [val]
  exact real_of_abs lt

/-- Of a finite input the kernel and the reference leave the same arrays: the network's values and its matrices of every row. -/
theorem same_results [Cert.Pre_finite.Facts] :
    Cert.algebraic_KernelIdeal_ReferenceIdeal_pre_finite (hKernelIdeal := Cert.KernelIdeal.Gen.facts)
      (hReferenceIdeal := Cert.ReferenceIdeal.Gen.facts) := by
  intro m g m' g' fin same
  let x : Dev Cert.KernelIdeal.nD → ℕ → ℕ → ℝ := fun c => realAt (m ((c.tc : Thread Cert.KernelIdeal.nD Cert.KernelIdeal.τ).loc Cert.KernelIdeal.main_arg0))
  have hx : ∀ c : Dev Cert.KernelIdeal.nD, Is2 (m := 256) (n := 128)
      (m ((c.tc : Thread Cert.KernelIdeal.nD Cert.KernelIdeal.τ).loc Cert.KernelIdeal.main_arg0)) (x c) := fun c => is_realAt (fin c)
  have hx' : ∀ c : Dev Cert.ReferenceIdeal.nD, Is2 (m := 256) (n := 128)
      (m' ((c.tc : Thread Cert.ReferenceIdeal.nD Cert.ReferenceIdeal.τ).loc Cert.ReferenceIdeal.main_arg0)) (x c) :=
    fun c y => (congrFun (same c) y).trans (hx c y)
  exact ⟨fun c => KernelIdeal.arrX (x c), fun c => KernelIdeal.arrM (x c), KernelIdeal.run_net m g x hx,
    (θ_run _ _ _).mono (fun _ h c => ⟨funext (h c).1, funext (h c).2.1, (h c).2.2⟩) (ReferenceIdeal.run_net m' g' x hx')⟩

end Cert.Sort

end
-- ==== Proof.lean ====
module

public import proofs.«01_k».proof.Defs
public import proofs.«01_k».proof.Proof.Frames
public import proofs.«01_k».proof.Proof.Value

@[expose] public section

noncomputable section

namespace Cert.Proof

/-- All that is claimed: the three programs run and leave their argument, the idealization preserves the kernel, and of a finite
    input the kernel and the reference leave the same results. -/
theorem claim : Cert.Claim := ⟨Cert.Kernel.Gen.facts, Cert.KernelIdeal.Gen.facts, Cert.ReferenceIdeal.Gen.facts, Sort.finite_facts,
  fun m g _ => Sort.frame_Kernel m g,
  fun m g _ => Sort.frame_KernelIdeal m g, fun m g _ => Sort.frame_KernelIdeal m g,
  fun m g _ => Sort.frame_ReferenceIdeal m g, fun m g _ => Sort.frame_ReferenceIdeal m g,
  trivial, @Sort.same_results Sort.finite_facts⟩

end Cert.Proof

end
